-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 384]⟩ ⟨2, ![6144, 384]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S6144x768 : Shape := ⟨2, ![6144, 768]⟩
abbrev S8x768x384 : Shape := ⟨3, ![8, 768, 384]⟩
abbrev S8x4 : Shape := ⟨2, ![8, 4]⟩
abbrev S_ : Shape := ⟨0, ![]⟩
abbrev S1x768x384 : Shape := ⟨3, ![1, 768, 384]⟩
abbrev S1x1 : Shape := ⟨2, ![1, 1]⟩
abbrev S1x192x384 : Shape := ⟨3, ![1, 192, 384]⟩
abbrev S192x384 : Shape := ⟨2, ![192, 384]⟩
abbrev S1x384x384 : Shape := ⟨3, ![1, 384, 384]⟩
abbrev S384x384 : Shape := ⟨2, ![384, 384]⟩

abbrev nBuf : Space → Nat
  | .hbm => 3
  | .vmem => 4
  | .smem => 0
  | _ => 0

abbrev bufTy : (tb : Table) → Fin (tcTables nBuf tb) → BufTy
  | .hbm, ⟨0, _⟩ => ⟨S768x384, .bf16⟩
  | .hbm, ⟨1, _⟩ => ⟨S384x768, .bf16⟩
  | .hbm, ⟨2, _⟩ => ⟨S6144x768, .bf16⟩
  | .local _ .vmem, ⟨0, _⟩ => ⟨S768x384, .bf16⟩
  | .local _ .vmem, ⟨1, _⟩ => ⟨S384x768, .bf16⟩
  | .local _ .vmem, ⟨2, _⟩ => ⟨S6144x768, .bf16⟩
  | .local _ .vmem, ⟨3, _⟩ => ⟨S8x768x384, .bf16⟩
  | _, _ => ⟨S768x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v18 : BitVec 32 := Scalar.xori v2 c1_i32_14
  let c1_i32_21 : BitVec 32 := 1#32
  let v19 : BitVec 32 := Scalar.muli v18 c1_i32_21
  let v20 : BitVec 32 := Scalar.addi c0_i32_22 v19
  v20.toNat
def k0_dev5 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_27 : BitVec 32 := 3#32
  let v29 : BitVec 32 := Scalar.xori v2 c3_i32_27
  let c1_i32_34 : BitVec 32 := 1#32
  let v30 : BitVec 32 := Scalar.muli v29 c1_i32_34
  let v31 : BitVec 32 := Scalar.addi c0_i32_35 v30
  v31.toNat
def k0_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_40 : BitVec 32 := 4#32
  let v40 : BitVec 32 := Scalar.xori v2 c4_i32_40
  let c1_i32_47 : BitVec 32 := 1#32
  let v41 : BitVec 32 := Scalar.muli v40 c1_i32_47
  let v42 : BitVec 32 := Scalar.addi c0_i32_48 v41
  v42.toNat
def k0_dev7 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v51 : BitVec 32 := Scalar.xori v2 c1_i32_53
  let c1_i32_60 : BitVec 32 := 1#32
  let v52 : BitVec 32 := Scalar.muli v51 c1_i32_60
  let v53 : BitVec 32 := Scalar.addi c0_i32_61 v52
  v53.toNat
def k0_dev8 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_65 : BitVec 32 := 3#32
  let v62 : BitVec 32 := Scalar.xori v2 c3_i32_65
  let c1_i32_72 : BitVec 32 := 1#32
  let v63 : BitVec 32 := Scalar.muli v62 c1_i32_72
  let v64 : BitVec 32 := Scalar.addi c0_i32_73 v63
  v64.toNat
def k0_dev9 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_78 : BitVec 32 := 4#32
  let v73 : BitVec 32 := Scalar.xori v2 c4_i32_78
  let c1_i32_85 : BitVec 32 := 1#32
  let v74 : BitVec 32 := Scalar.muli v73 c1_i32_85
  let v75 : BitVec 32 := Scalar.addi c0_i32_86 v74
  v75.toNat
def k0_dev10 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_91 : BitVec 32 := 1#32
  let v84 : BitVec 32 := Scalar.xori v2 c1_i32_91
  let c1_i32_97 : BitVec 32 := 1#32
  let v85 : BitVec 32 := Scalar.muli v84 c1_i32_97
  let v86 : BitVec 32 := Scalar.addi c0_i32_98 v85
  v86.toNat
def k0_dev11 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_102 : BitVec 32 := 3#32
  let v95 : BitVec 32 := Scalar.xori v2 c3_i32_102
  let c1_i32_109 : BitVec 32 := 1#32
  let v96 : BitVec 32 := Scalar.muli v95 c1_i32_109
  let v97 : BitVec 32 := Scalar.addi c0_i32_110 v96
  v97.toNat
def k0_dev12 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_115 : BitVec 32 := 4#32
  let v106 : BitVec 32 := Scalar.xori v2 c4_i32_115
  let c1_i32_122 : BitVec 32 := 1#32
  let v107 : BitVec 32 := Scalar.muli v106 c1_i32_122
  let v108 : BitVec 32 := Scalar.addi c0_i32_123 v107
  v108.toNat
def k0_dev13 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_128 : BitVec 32 := 1#32
  let v117 : BitVec 32 := Scalar.xori v2 c1_i32_128
  let c1_i32_135 : BitVec 32 := 1#32
  let v118 : BitVec 32 := Scalar.muli v117 c1_i32_135
  let v119 : BitVec 32 := Scalar.addi c0_i32_136 v118
  v119.toNat
def k0_dev14 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_140 : BitVec 32 := 3#32
  let v128 : BitVec 32 := Scalar.xori v2 c3_i32_140
  let c1_i32_147 : BitVec 32 := 1#32
  let v129 : BitVec 32 := Scalar.muli v128 c1_i32_147
  let v130 : BitVec 32 := Scalar.addi c0_i32_148 v129
  v130.toNat
def k0_dev15 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_153 : BitVec 32 := 4#32
  let v139 : BitVec 32 := Scalar.xori v2 c4_i32_153
  let c1_i32_160 : BitVec 32 := 1#32
  let v140 : BitVec 32 := Scalar.muli v139 c1_i32_160
  let v141 : BitVec 32 := Scalar.addi c0_i32_161 v140
  v141.toNat
def k0_off1 (d0 : Dev nD) (c0_i32_168 : BitVec 32) (c0_i32_172 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v152 : BitVec 32 := Scalar.xori v2 c0_i32_168
  let c768_i32 : BitVec 32 := 768#32
  let v157 : BitVec 32 := Scalar.muli v152 c768_i32
  let v158 : BitVec 32 := Scalar.addi v157 c0_i32_172
  let v159 : Index := Scalar.indexCast v158
  let c0_173 : Index := 0#32
  ![v159.toNat, 0]
def k0_dev16 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_193 : BitVec 32 := 4#32
  let v178 : BitVec 32 := Scalar.xori v2 c4_i32_193
  let c1_i32_199 : BitVec 32 := 1#32
  let v179 : BitVec 32 := Scalar.muli v178 c1_i32_199
  let v180 : BitVec 32 := Scalar.addi c0_i32_200 v179
  v180.toNat
def k0_dev17 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_217 : BitVec 32 := 1#32
  let v197 : BitVec 32 := Scalar.xori v2 c1_i32_217
  let c1_i32_224 : BitVec 32 := 1#32
  let v198 : BitVec 32 := Scalar.muli v197 c1_i32_224
  let v199 : BitVec 32 := Scalar.addi c0_i32_225 v198
  v199.toNat
def k0_dev18 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_242 : BitVec 32 := 3#32
  let v216 : BitVec 32 := Scalar.xori v2 c3_i32_242
  let c1_i32_248 : BitVec 32 := 1#32
  let v217 : BitVec 32 := Scalar.muli v216 c1_i32_248
  let v218 : BitVec 32 := Scalar.addi c0_i32_249 v217
  v218.toNat
def k0_dev19 (d0 : Dev nD) : Nat :=
  let c0_i32_274 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_266 : BitVec 32 := 4#32
  let v235 : BitVec 32 := Scalar.xori v2 c4_i32_266
  let c1_i32_273 : BitVec 32 := 1#32
  let v236 : BitVec 32 := Scalar.muli v235 c1_i32_273
  let v237 : BitVec 32 := Scalar.addi c0_i32_274 v236
  v237.toNat
def k0_dev20 (d0 : Dev nD) : Nat :=
  let c0_i32_299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_291 : BitVec 32 := 1#32
  let v254 : BitVec 32 := Scalar.xori v2 c1_i32_291
  let c1_i32_298 : BitVec 32 := 1#32
  let v255 : BitVec 32 := Scalar.muli v254 c1_i32_298
  let v256 : BitVec 32 := Scalar.addi c0_i32_299 v255
  v256.toNat
def k0_dev21 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_316 : BitVec 32 := 3#32
  let v273 : BitVec 32 := Scalar.xori v2 c3_i32_316
  let c1_i32_323 : BitVec 32 := 1#32
  let v274 : BitVec 32 := Scalar.muli v273 c1_i32_323
  let v275 : BitVec 32 := Scalar.addi c0_i32_324 v274
  v275.toNat
def k0_dev22 (d0 : Dev nD) : Nat :=
  let c0_i32_363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_355 : BitVec 32 := 4#32
  let v310 : BitVec 32 := Scalar.xori v2 c4_i32_355
  let c1_i32_362 : BitVec 32 := 1#32
  let v311 : BitVec 32 := Scalar.muli v310 c1_i32_362
  let v312 : BitVec 32 := Scalar.addi c0_i32_363 v311
  v312.toNat
def k0_dev23 (d0 : Dev nD) : Nat :=
  let c0_i32_388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_380 : BitVec 32 := 1#32
  let v329 : BitVec 32 := Scalar.xori v2 c1_i32_380
  let c1_i32_387 : BitVec 32 := 1#32
  let v330 : BitVec 32 := Scalar.muli v329 c1_i32_387
  let v331 : BitVec 32 := Scalar.addi c0_i32_388 v330
  v331.toNat
def k0_dev24 (d0 : Dev nD) : Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_405 : BitVec 32 := 3#32
  let v348 : BitVec 32 := Scalar.xori v2 c3_i32_405
  let c1_i32_412 : BitVec 32 := 1#32
  let v349 : BitVec 32 := Scalar.muli v348 c1_i32_412
  let v350 : BitVec 32 := Scalar.addi c0_i32_413 v349
  v350.toNat
def k0_dev25 (d0 : Dev nD) : Nat :=
  let c0_i32_445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_437 : BitVec 32 := 4#32
  let v376 : BitVec 32 := Scalar.xori v2 c4_i32_437
  let c1_i32_444 : BitVec 32 := 1#32
  let v377 : BitVec 32 := Scalar.muli v376 c1_i32_444
  let v378 : BitVec 32 := Scalar.addi c0_i32_445 v377
  v378.toNat
def k0_dev26 (d0 : Dev nD) : Nat :=
  let c0_i32_470 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_462 : BitVec 32 := 1#32
  let v395 : BitVec 32 := Scalar.xori v2 c1_i32_462
  let c1_i32_469 : BitVec 32 := 1#32
  let v396 : BitVec 32 := Scalar.muli v395 c1_i32_469
  let v397 : BitVec 32 := Scalar.addi c0_i32_470 v396
  v397.toNat
def k0_dev27 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_487 : BitVec 32 := 3#32
  let v414 : BitVec 32 := Scalar.xori v2 c3_i32_487
  let c1_i32_494 : BitVec 32 := 1#32
  let v415 : BitVec 32 := Scalar.muli v414 c1_i32_494
  let v416 : BitVec 32 := Scalar.addi c0_i32_495 v415
  v416.toNat
def k0_dev28 (d0 : Dev nD) : Nat :=
  let c0_i32_527 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_520 : BitVec 32 := 1#32
  let v442 : BitVec 32 := Scalar.xori v2 c1_i32_520
  let c1_i32_526 : BitVec 32 := 1#32
  let v443 : BitVec 32 := Scalar.muli v442 c1_i32_526
  let v444 : BitVec 32 := Scalar.addi c0_i32_527 v443
  v444.toNat
def k0_dev29 (d0 : Dev nD) : Nat :=
  let c0_i32_560 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_552 : BitVec 32 := 1#32
  let v470 : BitVec 32 := Scalar.xori v2 c1_i32_552
  let c1_i32_559 : BitVec 32 := 1#32
  let v471 : BitVec 32 := Scalar.muli v470 c1_i32_559
  let v472 : BitVec 32 := Scalar.addi c0_i32_560 v471
  v472.toNat
def k0_dev30 (d0 : Dev nD) : Nat :=
  let c0_i32_600 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_592 : BitVec 32 := 3#32
  let v507 : BitVec 32 := Scalar.xori v2 c3_i32_592
  let c1_i32_599 : BitVec 32 := 1#32
  let v508 : BitVec 32 := Scalar.muli v507 c1_i32_599
  let v509 : BitVec 32 := Scalar.addi c0_i32_600 v508
  v509.toNat
def k0_dev31 (d0 : Dev nD) : Nat :=
  let c0_i32_656 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_648 : BitVec 32 := 3#32
  let v551 : BitVec 32 := Scalar.xori v2 c3_i32_648
  let c1_i32_655 : BitVec 32 := 1#32
  let v552 : BitVec 32 := Scalar.muli v551 c1_i32_655
  let v553 : BitVec 32 := Scalar.addi c0_i32_656 v552
  v553.toNat
abbrev stage0_0 : Fin 1 → Memref sig .tc .vmem S768x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S6144x384 : Shape := ⟨2, ![6144, 384]⟩
abbrev S384x768 : Shape := ⟨2, ![384, 768]⟩
abbrev S6144x768 : Shape := ⟨2, ![6144, 768]⟩

abbrev nBuf : Space → Nat
  | .hbm => 6
  | .vmem => 0
  | .smem => 0
  | _ => 0

abbrev bufTy : (tb : Table) → Fin (tcTables nBuf tb) → BufTy
  | .hbm, ⟨0, _⟩ => ⟨S6144x384, .bf16⟩
  | .hbm, ⟨1, _⟩ => ⟨S384x768, .bf16⟩
  | .hbm, ⟨2, _⟩ => ⟨S6144x384, .f32⟩
  | .hbm, ⟨3, _⟩ => ⟨S384x768, .f32⟩
  | .hbm, ⟨4, _⟩ => ⟨S6144x768, .f32⟩
  | .hbm, ⟨5, _⟩ => ⟨S6144x768, .bf16⟩
  | _, _ => ⟨S6144x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Chains.lean ====
/-
  Chains of resources over lists: order does not matter, and chains split as the lists do.
-/
module

public import Idealize.ShloMosaic.Lib.Pipeline.BigSepL
public import Idealize.ShloMosaic.Lib.Tactic

@[expose] public section

namespace Cert.Chains

open Idealize.SL Idealize.SL.RA Idealize.SL.BI
open scoped Idealize.SL.BI
open Idealize.SL.BI.BIBase Idealize.SL.BI.Laws Idealize.SL.ProofMode

variable {M : Type _} [URA M] {I J : Type _}

/-- Two assertions that follow from each other are one. -/
theorem eq_of {P Q : sProp M} (h : P ⊢ Q) (h' : Q ⊢ P) : P = Q := Entails.antisymm h h'

/-- Rearranging a list leaves its chain the same. -/
theorem chain_perm {l l' : List I} (h : l.Perm l') (Φ : I → sProp M) : bigSepL l Φ = bigSepL l' Φ := by
  induction h with
  | nil => rfl
  | cons x _ ih => rw [bigSepL_cons', bigSepL_cons', ih]
  | swap x y l =>
    rw [bigSepL_cons', bigSepL_cons', bigSepL_cons', bigSepL_cons']
    refine eq_of ?_ ?_
    · iintro ⟨H1, H2, H3⟩; isplitl [H2]; · iexact H2
      isplitl [H1]; · iexact H1
      iexact H3
    · iintro ⟨H1, H2, H3⟩; isplitl [H2]; · iexact H2
      isplitl [H1]; · iexact H1
      iexact H3
  | trans _ _ ih₁ ih₂ => exact ih₁.trans ih₂

/-- A list with one member brought to the front. -/
theorem chain_take {l l' : List I} {x : I} (h : l.Perm (x :: l')) (Φ : I → sProp M) : bigSepL l Φ = iprop(Φ x ∗ bigSepL l' Φ) := by
  rw [chain_perm h, bigSepL_cons']

/-- A chain of pairs is a pair of chains. -/
theorem chain_sep (l : List I) (Φ Ψ : I → sProp M) : bigSepL l (fun i => iprop(Φ i ∗ Ψ i)) = iprop(bigSepL l Φ ∗ bigSepL l Ψ) := by
  induction l with
  | nil => exact (equiv_iff.mp (BI.emp_sep)).symm
  | cons x l ih =>
    rw [bigSepL_cons', bigSepL_cons', bigSepL_cons', ih]
    refine eq_of ?_ ?_
    · iintro ⟨⟨H1, H2⟩, H3, H4⟩
      isplitl [H1 H3]
      · isplitl [H1] <;> iassumption
      · isplitl [H2] <;> iassumption
    · iintro ⟨⟨H1, H3⟩, H2, H4⟩
      isplitl [H1 H2]
      · isplitl [H1] <;> iassumption
      · isplitl [H3] <;> iassumption

/-- A chain over a list of lists is a chain of chains. -/
theorem chain_flatMap (l : List I) (f : I → List J) (Φ : J → sProp M) : bigSepL (l.flatMap f) Φ = bigSepL l fun i => bigSepL (f i) Φ := by
  induction l with
  | nil => rfl
  | cons x l ih => rw [List.flatMap_cons, bigSepL_append, bigSepL_cons', ih]

/-- Chains with equal members are equal. -/
theorem chain_congr {l : List I} {Φ Ψ : I → sProp M} (h : ∀ i ∈ l, Φ i = Ψ i) : bigSepL l Φ = bigSepL l Ψ := by
  induction l with
  | nil => rfl
  | cons x l ih => rw [bigSepL_cons', bigSepL_cons', h x List.mem_cons_self, ih fun i hi => h i (List.mem_cons_of_mem _ hi)]

/-- From all of a finite type, the members of a list without repetition. -/
theorem chain_of_all [Fintype I] [DecidableEq I] {l : List I} (hl : l.Nodup) (Φ : I → sProp M) : bigSep Finset.univ Φ ⊢ bigSepL l Φ :=
  (bigSep_subset (Finset.subset_univ l.toFinset)).trans (Entails.of_eq (bigSep_eq_bigSepL l hl Φ))

/-- All of a sum of two types are all of the first and all of the second. -/
theorem all_sum {A B : Type} [Fintype A] [Fintype B] (Φ : A ⊕ B → sProp M) :
    bigSep Finset.univ Φ = iprop((bigSep Finset.univ fun a => Φ (.inl a)) ∗ bigSep Finset.univ fun b => Φ (.inr b)) := bigSep_univ_sum Φ

end Cert.Chains
-- ==== Proof.Plan.lean ====
/-
  The exchange of `A` as tables. Device `c` keeps eight slots; slot `s` is to hold the block of `A` that started on
  device `c xor s`. A slot travels in four quarters of 192 rows, so a transfer is named by the quarter it fills,
  `y = (slot, quarter)`: it goes from quarter `src y` of one device to quarter `y` of the device across link `link y`.
  Slot 0 is filled by no transfer: it is the device's own block.

  The tables list the order in which every device issues the transfers, waits for them and multiplies, which quarters
  are readable at each moment, and what is lent to transfers under way. All facts about them are decided.
-/
module

public import Mathlib.Data.Fintype.Prod
public import Mathlib.Data.List.Dedup
public import Mathlib.Logic.Equiv.Defs

@[expose] public section

namespace Cert.Plan

/-- A quarter of a slot. -/
abbrev Qt : Type := Fin 8 × Fin 4

set_option backward.proofsInPublic true in
/-- The device across link `g`: the bits of its number flipped. -/
def px (g c : Fin 8) : Fin 8 := ⟨(g.val ^^^ c.val) % 8, Nat.mod_lt _ (by decide)⟩

/-- Crossing a link twice leads back. -/
theorem px_px (g c : Fin 8) : px g (px g c) = c := by revert g c; decide
/-- Two links may be crossed in either order. -/
theorem px_comm (g h c : Fin 8) : px g (px h c) = px h (px g c) := by revert g h c; decide
/-- `c` is across link `g` from `d` just when `d` is from `c`. -/
theorem px_eq_iff (g c d : Fin 8) : px g d = c ↔ d = px g c :=
  ⟨fun h => by rw [← h, px_px], fun h => by rw [h, px_px]⟩
/-- The device across the link between `d` and `c` is `d` again. -/
theorem px_swap (d c : Fin 8) : px (px d c) c = d := by revert d c; decide
/-- Link 0 leads nowhere. -/
theorem px_zero (c : Fin 8) : px 0 c = c := by revert c; decide

/-- Flipping the same bits twice changes nothing, so this is a rearrangement of the devices. -/
def across (g : Fin 8) : Fin 8 ≃ Fin 8 := ⟨px g, px g, px_px g, px_px g⟩

/-- The link a transfer uses. -/
def link : Qt → Fin 8
  | (0, _) => 0 | (1, _) => 1 | (2, _) => 1 | (3, _) => 3 | (4, _) => 4 | (5, _) => 4
  | (6, q) => if q.val < 2 then 1 else 3
  | (7, _) => 3

/-- The quarter a transfer reads on the sending device. -/
def src : Qt → Qt
  | (0, q) => (0, q) | (1, q) => (0, q) | (2, q) => (3, q) | (3, q) => (0, q) | (4, q) => (0, q) | (5, q) => (1, q)
  | (6, q) => if q.val < 2 then (7, q) else (5, q)
  | (7, q) => (4, q)

/-- Both ends of a transfer hold the same block: the slot filled is the slot read with the link's bits flipped. -/
theorem px_src (y : Qt) (c : Fin 8) : px (src y).1 c = px y.1 (px (link y) c) := by revert y c; decide
/-- A transfer reads and fills the same quarter of its two slots. -/
theorem src_snd (y : Qt) : (src y).2 = y.2 := by revert y; decide

/-- The transfers in the order in which they are issued (and in which their ends are awaited on the sending side). -/
def sOrd : List Qt :=
  [(1,0),(3,0),(4,0),(1,1),(3,1),(4,1),(1,2),(3,2),(4,2),(1,3),(3,3),(4,3),
   (5,0),(2,0),(7,0),(5,1),(2,1),(7,1),(5,2),(2,2),(7,2),(5,3),(2,3),(7,3),
   (6,0),(6,1),(6,2),(6,3)]

/-- The order in which the arrivals are awaited. -/
def rOrd : List Qt :=
  [(1,0),(3,0),(4,0),(1,1),(3,1),(4,1),(1,2),(3,2),(4,2),(1,3),(3,3),(4,3),
   (7,0),(7,1),(5,2),(2,0),(2,1),(5,3),(5,0),(5,1),(7,2),(7,3),(2,2),(2,3),(6,0),(6,1),(6,2),(6,3)]

/-- The order in which the half blocks are multiplied: (slot, half). -/
def cOrd : List (Fin 8 × Fin 2) :=
  [(0,0),(0,1),(1,0),(3,0),(4,0),(1,1),(3,1),(4,1),(7,0),(2,0),(5,0),(7,1),(2,1),(5,1),(6,0),(6,1)]

/-- The quarters of the device's own block. -/
def own : List Qt := [(0,0),(0,1),(0,2),(0,3)]

/-- The quarters a device holds after `k` of its arrival waits. -/
def held (k : ℕ) : List Qt := own ++ rOrd.take k

/-- The transfers that read quarter `y`. -/
def outs (y : Qt) : List Qt := sOrd.filter fun z => src z = y

/-- The transfers not yet issued whose source is held, after `j` issues and `k` arrival waits. -/
def ready (j k : ℕ) : List Qt := (sOrd.drop j).filter fun z => src z ∈ held k

/-- The transfers that use link `g`. -/
def over (g : Fin 8) : List Qt := sOrd.filter fun y => link y = g

/-- The height of an arrival: the first hop, the second, the third. A wait on an arrival comes when only higher ones are still to be sent. -/
def height : Qt → ℕ
  | (1, _) => 2 | (3, _) => 2 | (4, _) => 2 | (6, _) => 4 | _ => 3

/-- Every arrival stands above the barrier. -/
theorem height_gt_one (y : Qt) : 1 < height y := by revert y; decide
/-- No transfer is issued twice. -/
theorem sOrd_nodup : sOrd.Nodup := by decide +kernel
/-- The arrivals awaited are those of the transfers issued. -/
theorem rOrd_perm : rOrd.Perm sOrd := by decide +kernel
/-- The own quarters and the transferred ones are all different. -/
theorem all_nodup : (own ++ sOrd).Nodup := by decide +kernel
/-- Every quarter is an own one or a transferred one. -/
theorem all_univ : (Finset.univ : Finset Qt) = (own ++ sOrd).toFinset := by decide +kernel
/-- The transfers, sorted by link. -/
theorem over_perm : (over 1 ++ (over 3 ++ over 4)).Perm sOrd := by decide +kernel
/-- A transfer over link `g` is a transfer, and uses link `g`. -/
theorem mem_over {g : Fin 8} {y : Qt} (h : y ∈ over g) : y ∈ sOrd ∧ link y = g := by
  simpa [over] using List.mem_filter.mp h
/-- No transfer fills a quarter of slot 0. -/
theorem mem_own {y : Qt} (h : y ∈ own) : y ∉ sOrd := by revert y; decide +kernel
/-- Every transfer uses one of the links 1, 3, 4. -/
theorem link_ne_zero {y : Qt} (h : y ∈ sOrd) : link y = 1 ∨ link y = 3 ∨ link y = 4 := by
  revert y; decide +kernel
/-- At the start just the transfers that read the own block are ready. -/
theorem ready_start : (ready 0 0).Perm (own.flatMap outs) := by decide +kernel
/-- At the end everything is held, and every transfer has read something held. -/
theorem held_all : (held 28).Perm (own ++ sOrd) := by decide +kernel
/-- Sorted by the quarter they read, the transfers are all there. -/
theorem outs_all : sOrd.Perm ((own ++ sOrd).flatMap outs) := by decide +kernel

end Cert.Plan
-- ==== Proof.Value.Reference.lean ====
/-
  What the reference computes over the reals: each entry of its result is the sum of products that a matrix product has there.
-/
module

public import proofs.«01_k».proof.Proof.Gen.ReferenceIdeal.Run
public import Idealize.ShloMosaic.PureOps.Ideal.Laws
public import Idealize.ShloMosaic.Lib.MatmulPlain
public import Idealize.ShloMosaic.Lib.StackMember

@[expose] public section

noncomputable section

namespace Cert.Value

open Idealize.ShloMosaic
open scoped BigOperators

/-- A matrix with real entries, as an array of either program holds it. -/
abbrev Mat (a b : Nat) : Type := FVec Ideal ⟨2, ![a, b]⟩ .bf16

/-- The product of two matrices. -/
def product (A : Mat 6144 384) (B : Mat 384 768) : Mat 6144 768 :=
  fun j => ∑ k : Fin 384, A (ValueIdx.ix2 (j 0) k) * B (ValueIdx.ix2 k (j 1))

section
open Cert.ReferenceIdeal Cert.ReferenceIdeal.Gen

/-- The reference's result is the product of its arguments: over the reals its conversions change nothing. -/
theorem reference_eq (A : Mat 6144 384) (B : Mat 384 768) :
    (truncf .bf16 (Host.dotGeneral (F := Ideal) dot_S6144x384_S384x768_S6144x768_1_0_0_1_n_n none (extf .f32 A bitsLt_bf16_f32) (extf .f32 B bitsLt_bf16_f32)) bitsLt_bf16_f32
      : FVec Ideal S6144x768 .bf16) = product A B := by
  funext j
  rw [ValueIdx.eq_ix2 j]
  exact StackMember.dotGeneral_plain_apply none (extf .f32 A bitsLt_bf16_f32) (extf .f32 B bitsLt_bf16_f32) (j 0) (j 1)
end

end Cert.Value

end
-- ==== Proof.KernelIdeal.Proto.lean ====
/-
  The protocol of the exchange: the semaphores, what every memory cell of the eight slots is to hold, what each signal
  and each landing hands over, what a device owes at the start, and the order in which semaphores may be waited for.
-/
module

public import proofs.«01_k».proof.Proof.Plan
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelIdealProof

open Cert.KernelIdeal Cert.KernelIdeal.Gen Cert.Plan

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Duties of the exchange are named by links: the barrier has one for each neighbour, every other semaphore the one named 0. -/
abbrev UB : Type := URounds (GSem nD τ sig) (Fin 8)
/-- The records of the staging and of the exchange together. -/
abbrev UU : Type := UR sig nD τ × UB

local notation "𝕄" => MT nD τ sig Unit (Elt F) ℕ UU ℕ

/-- The staging's records among all resources. -/
abbrev EP : Emb (UR sig nD τ) (MT nD τ sig Unit (Elt F) ℕ UU ℕ) := embL
/-- The exchange's records among all resources. -/
abbrev ER : Emb UB (MT nD τ sig Unit (Elt F) ℕ UU ℕ) := embR

variable (m : (ℓ : Loc nD τ sig) → Buf (Elt F) ℓ) (ρ : Dev nD → PrngReg)

/-- Memory at the start of a run: any contents, every counter zero. -/
def s₀ : MemSt nD τ sig (Elt F) := ⟨m, fun _ => 0, ρ⟩

/-! ## Memory and semaphores -/

/-- The staged block of `A`. -/
abbrev aM : Memref sig .tc .vmem S768x384 .bf16 := Memref.whole cc0_stg0_0
/-- The staged `B`. -/
abbrev bM : Memref sig .tc .vmem S384x768 .bf16 := Memref.whole cc0_stg1_0
/-- The staged result. -/
abbrev oM : Memref sig .tc .vmem S6144x768 .bf16 := Memref.whole cc0_stg2_0
/-- The eight slots. -/
abbrev gM : Memref sig .tc .vmem S8x768x384 .bf16 := Memref.whole cc0_scratch0

/-- A quarter lies within the slots. -/
theorem quarter_inb (y : Qt) (a : Fin 3) : (![y.1.val, 192 * y.2.val, 0] : Fin 3 → Nat) a + S1x192x384.size a ≤ S8x768x384.size a := by
  obtain ⟨⟨s, hs⟩, ⟨q, hq⟩⟩ := y
  fin_cases a
  · show s + 1 ≤ 8; omega
  · show 192 * q + 192 ≤ 768; omega
  · show 0 + 384 ≤ 384; omega
/-- A half lies within the slots. -/
theorem half_inb (x : Fin 8 × Fin 2) (a : Fin 3) : (![x.1.val, 384 * x.2.val, 0] : Fin 3 → Nat) a + S1x384x384.size a ≤ S8x768x384.size a := by
  obtain ⟨⟨s, hs⟩, ⟨q, hq⟩⟩ := x
  fin_cases a
  · show s + 1 ≤ 8; omega
  · show 384 * q + 384 ≤ 768; omega
  · show 0 + 384 ≤ 384; omega
/-- Every quarter has its place in a table of semaphores. -/
theorem sem_inb (y : Qt) (a : Fin 2) : (![y.1.val, y.2.val] : Fin 2 → Nat) a + S1x1.size a ≤ S8x4.size a := by
  obtain ⟨⟨s, hs⟩, ⟨q, hq⟩⟩ := y
  fin_cases a
  · show s + 1 ≤ 8; omega
  · show q + 1 ≤ 4; omega

/-- The rectangle of quarter `y` within the slots. -/
abbrev qR (y : Qt) : Rect S8x768x384 := Rect.unit (s := S8x768x384) ![y.1.val, 192 * y.2.val, 0] S1x192x384.size (quarter_inb y)
/-- The rectangle of half `x` within the slots. -/
abbrev hR (x : Fin 8 × Fin 2) : Rect S8x768x384 := Rect.unit (s := S8x768x384) ![x.1.val, 384 * x.2.val, 0] S1x384x384.size (half_inb x)

/-- Quarter `y` as a transfer names it. -/
abbrev qM (y : Qt) : Memref sig .tc .vmem S192x384 .bf16 :=
  (gM.slice (qR y) (fun _ => rfl)).squeeze S192x384 squeezes_S1x192x384_S192x384

/-- The barrier. -/
abbrev barS : Sem sig := (SemArray.scalar (sig.barrier 0 rfl) : Sems sig S_).sem
/-- The semaphore at its sender for the end of the transfer that fills `y`. -/
abbrev sendS (y : Qt) : DmaSem sig := ((cc0_scratch1.slice (Rect.unit (s := S8x4) ![y.1.val, y.2.val] S1x1.size (sem_inb y))).squeeze S_ squeezes_S1x1_S_).sem
/-- The semaphore at its receiver for the end of the transfer that fills `y`. -/
abbrev recvS (y : Qt) : DmaSem sig := ((cc0_scratch2.slice (Rect.unit (s := S8x4) ![y.1.val, y.2.val] S1x1.size (sem_inb y))).squeeze S_ squeezes_S1x1_S_).sem

/-- The number of a sender's semaphore. -/
theorem sendS_val (y : Qt) : (sendS y).val = 3 + (y.2.val + 4 * y.1.val) := by revert y; decide +kernel
/-- The number of a receiver's semaphore. -/
theorem recvS_val (y : Qt) : (recvS y).val = 35 + (y.2.val + 4 * y.1.val) := by revert y; decide +kernel

/-- The barrier of device `c`. -/
abbrev barCell (c : Dev nD) : GSem nD τ sig := ((c : Thread nD τ), .reg barS)
/-- Device `c`'s semaphore for the end of the transfer it issues to fill `y`. -/
abbrev sendCell (c : Dev nD) (y : Qt) : GSem nD τ sig := ((c : Thread nD τ), .dma (sendS y))
/-- Device `c`'s semaphore for the arrival that fills its own `y`. -/
abbrev recvCell (c : Dev nD) (y : Qt) : GSem nD τ sig := ((c : Thread nD τ), .dma (recvS y))

/-- The semaphores of a device by what they are for: the barrier, the end of a transfer at its sender, at its receiver. -/
abbrev CI : Type := Unit ⊕ (Qt ⊕ Qt)
/-- The semaphore for each purpose. -/
def csem : CI → SemLoc sig
  | .inl _ => .reg barS
  | .inr (.inl y) => .dma (sendS y)
  | .inr (.inr y) => .dma (recvS y)

/-- A quarter is known by its number. -/
theorem qt_ext {y z : Qt} (h : y.2.val + 4 * y.1.val = z.2.val + 4 * z.1.val) : y = z := by
  obtain ⟨⟨s, hs⟩, ⟨q, hq⟩⟩ := y; obtain ⟨⟨s', hs'⟩, ⟨q', hq'⟩⟩ := z
  have h : q + 4 * s = q' + 4 * s' := h
  have h1 : s = s' := by omega
  have h2 : q = q' := by omega
  subst h1; subst h2; rfl

/-- Different purposes have different semaphores. -/
theorem csem_injective : Function.Injective csem := by
  have key : ∀ {a b : DmaSem sig}, (SemLoc.dma a : SemLoc sig) = .dma b → a.val = b.val := fun h => by injection h with h; rw [h]
  rintro (⟨⟩ | y | y) (⟨⟩ | z | z) h
  · rfl
  · exact nomatch h
  · exact nomatch h
  · exact nomatch h
  · have := key h; rw [sendS_val, sendS_val] at this; rw [qt_ext (y := y) (z := z) (by omega)]
  · have := key h; rw [sendS_val, recvS_val] at this
    obtain ⟨⟨s, hs⟩, ⟨q, hq⟩⟩ := y; obtain ⟨⟨s', hs'⟩, ⟨q', hq'⟩⟩ := z; simp only at this; omega
  · exact nomatch h
  · have := key h; rw [sendS_val, recvS_val] at this
    obtain ⟨⟨s, hs⟩, ⟨q, hq⟩⟩ := y; obtain ⟨⟨s', hs'⟩, ⟨q', hq'⟩⟩ := z; simp only at this; omega
  · have := key h; rw [recvS_val, recvS_val] at this; rw [qt_ext (y := y) (z := z) (by omega)]

/-- The semaphore for a purpose on a device. -/
abbrev kcell (ck : Dev nD × CI) : GSem nD τ sig := ((ck.1 : Thread nD τ), csem ck.2)

/-- Different devices or purposes have different semaphores. -/
theorem kcell_injective : Function.Injective (kcell : Dev nD × CI → GSem nD τ sig) := by
  rintro ⟨c, k⟩ ⟨d, l⟩ h
  have h1 : c = d := congrArg (fun g : GSem nD τ sig => g.1.1) h
  have h2 : k = l := csem_injective (congrArg Prod.snd h)
  rw [h1, h2]

/-- What a semaphore of the exchange is for, read back from the semaphore. -/
def dec (sm : SemLoc sig) : Option CI := Function.partialInv csem sm
/-- A semaphore's purpose is read back. -/
theorem dec_csem (k : CI) : dec (csem k) = some k := (Function.partialInv_of_injective csem_injective k _).mpr rfl
/-- What is read back as a purpose is its semaphore. -/
theorem dec_some {sm : SemLoc sig} {k : CI} (h : dec sm = some k) : csem k = sm :=
  (Function.partialInv_of_injective csem_injective k sm).mp h
/-- The barrier reads back as such. -/
theorem dec_bar : dec (.reg barS) = some (.inl ()) := dec_csem (.inl ())
/-- A sender's semaphore reads back as such. -/
theorem dec_send (y : Qt) : dec (.dma (sendS y)) = some (.inr (.inl y)) := dec_csem (.inr (.inl y))
/-- A receiver's semaphore reads back as such. -/
theorem dec_recv (y : Qt) : dec (.dma (recvS y)) = some (.inr (.inr y)) := dec_csem (.inr (.inr y))

/-- The bytes of a quarter, as a transfer counts them: all quarters alike. -/
abbrev N : ℕ := (qM (0, 0)).view.dmaCredit
/-- A quarter is not empty. -/
theorem N_pos : 0 < N := View.dmaCredit_pos _ (by decide)
/-- All quarters count the same bytes. -/
theorem credit_eq (y : Qt) : (qM y).view.dmaCredit = N := rfl

/-! ## Contents -/

/-- Device `d`'s block of `A`, as the kernel is given it. -/
def aStg (d : Dev nD) : (cc0_stg0_0 : Ref sig .tc).ty.Contents (Elt F) :=
  (win0_0.blk (0 : Fin 1)).view.read (Elt F) ((s₀ m ρ).mem ((d : Thread nD τ).loc main_arg0))
/-- Device `d`'s copy of `B`, as the kernel is given it. -/
def bStg (d : Dev nD) : (cc0_stg1_0 : Ref sig .tc).ty.Contents (Elt F) :=
  (win0_1.blk (0 : Fin 1)).view.read (Elt F) ((s₀ m ρ).mem ((d : Thread nD τ).loc main_arg1))

/-- An index of a two-axis shape from its coordinates. -/
def ix2 {a b : Nat} (i : Fin a) (j : Fin b) : (⟨2, ![a, b]⟩ : Shape).Idx := fun
  | ⟨0, _⟩ => i
  | ⟨1, _⟩ => j

/-- What device `c`'s slots are to hold: in slot `s`, the block of `A` of the device across link `s`. -/
def slots (c : Dev nD) : Buf (Elt F) ((gM : Memref sig .tc .vmem S8x768x384 .bf16).view.loc (c : Thread nD τ)) :=
  fun i : S8x768x384.Idx => aStg m ρ (px (i 0) c) (ix2 (a := 768) (b := 384) (i 1) (i 2))

/-- Half `h` of device `d`'s block, as a vector of the shape the kernel loads. -/
def aHalf (d : Dev nD) (h : Fin 2) : Vec F S1x384x384 .bf16 :=
  fun i : S1x384x384.Idx => aStg m ρ d (ix2 (a := 768) (b := 384) ⟨384 * h.val + (i 1).val, by have : (i 1).val < 384 := (i 1).isLt; omega⟩ (i 2))

/-- The product of a half block with `B`, rounded as the kernel rounds it. -/
def part (c d : Dev nD) (h : Fin 2) : FVec F S384x768 .bf16 := k0_pay4 (k0_pay2 (bStg m ρ c)) (aHalf m ρ d h)

/-- The result on device `c`: at every 384 rows, the product of the half block they stand for. -/
def result (c : Dev nD) : (cc0_stg2_0 : Ref sig .tc).ty.Contents (Elt F) :=
  fun i : S6144x768.Idx =>
    part m ρ c ⟨(i 0).val / 768, by have : (i 0).val < 6144 := (i 0).isLt; show _ < 8; omega⟩
      ⟨(i 0).val % 768 / 384, by omega⟩
      (ix2 (a := 384) (b := 768) ⟨(i 0).val % 384, Nat.mod_lt _ (by decide)⟩ (i 1))

/-- Quarter `y` of device `c`'s slots, a share of it, holding `f`. -/
def qPts (c : Dev nD) (y : Qt) (q : PosShare TreeShare) (f : Buf (Elt F) ((gM : Memref sig .tc .vmem S8x768x384 .bf16).view.loc (c : Thread nD τ))) : sProp 𝕄 :=
  (qM y).view.loc (c : Thread nD τ) ↦[(qM y).view.set]{q} f

omit [FloatOps F] in
/-- A share of a quarter may be kept in an invariant. -/
instance qPts_storable (c : Dev nD) (y : Qt) (q) (f) : BI.Storable (upEmb : UEmb _ 𝕄) (qPts (F := F) c y q f) := by unfold qPts; infer_instance

/-- The share of a quarter that is lent to the transfer filling `y`: a quarter of the device's own block is read by three transfers at once. -/
def lsh (y : Qt) : PosShare TreeShare :=
  match y.1 with
  | 1 => fullShare.left.left
  | 3 => fullShare.left.right.left
  | 4 => fullShare.left.right.right
  | _ => fullShare.left

/-- What is lent to the transfer filling `y`: a share of the quarter it reads. -/
def lent (c : Dev nD) (y : Qt) : sProp 𝕄 := qPts c (src y) (lsh y) (slots m ρ c)

/-- Room for an arrival: a quarter with any contents. -/
def room (c : Dev nD) (y : Qt) : sProp 𝕄 := iprop(∃ f, qPts (F := F) c y fullShare f)

omit [FloatOps F] in
/-- Room may be kept in an invariant. -/
instance room_storable (c : Dev nD) (y : Qt) : BI.Storable (upEmb : UEmb _ 𝕄) (room (F := F) c y) := by unfold room; infer_instance

omit [FloatOps F] in
/-- A chain of what may be kept in an invariant may be kept there. -/
instance list_storable {I : Type} (l : List I) (Φ : I → sProp 𝕄) [∀ i, BI.Storable (upEmb : UEmb _ 𝕄) (Φ i)] : BI.Storable (upEmb : UEmb _ 𝕄) (bigSepL l Φ) := by
  induction l with
  | nil => exact (inferInstance : BI.Storable (upEmb : UEmb _ 𝕄) iprop(emp))
  | cons i l ih => rw [bigSepL_cons']; infer_instance

/-! ## The schedule -/

/-- What a signal hands over, by the purpose of its semaphore. -/
def payloadOf (c : Dev nD) (d : Fin 8) : Option CI → sProp 𝕄
  | some (.inl _) => bigSepL (over d) (fun y => room (F := F) (px d c) y)
  | some (.inr (.inl y)) => lent m ρ c y
  | some (.inr (.inr y)) => qPts c y fullShare (slots m ρ c)
  | none => iprop(emp)

/-- Who signals, by the purpose of the semaphore. -/
def dutiesOf : Option CI → Finset (Fin 8)
  | some (.inl _) => {1, 3, 4}
  | some (.inr (.inl y)) => if y ∈ sOrd then {0} else ∅
  | some (.inr (.inr y)) => if y ∈ sOrd then {0} else ∅
  | none => ∅

/-- One round. The barrier of device `c` is signalled by the device across each of the links 1, 3, 4, which thereby hands
    over the quarters that `c` will fill there. The end of a transfer at its sender returns what was lent to it; at its
    receiver it hands over the quarter it filled, holding what `slots` says. -/
def rd : Rounds.Schedule (GSem nD τ sig) (Fin 8) 𝕄 where
  duties g r := if r = 0 ∧ g.1.2 = .tc then dutiesOf (dec g.2) else ∅
  unitless _ := False
  amount g _ _ := if g.2 = .reg barS then 1 else N
  payload g _ d := payloadOf m ρ g.1.1 d (dec g.2)
  amount_pos g _ _ _ := by split; exacts [Nat.one_pos, N_pos]

/-- What a signal hands over may be kept in an invariant. -/
instance rd_payload_storable (g : GSem nD τ sig) (r : ℕ) (d : Fin 8) :
    BI.Storable (upEmb : UEmb _ 𝕄) ((rd (F := F) m ρ).payload g r d) := by
  show BI.Storable upEmb (payloadOf m ρ g.1.1 d (dec g.2))
  unfold payloadOf lent
  split
  · infer_instance
  · infer_instance
  · infer_instance
  · exact (inferInstance : BI.Storable (upEmb : UEmb _ 𝕄) iprop(emp))

omit [FloatOps F] in
/-- The barrier has three signals, one for each link. -/
theorem duties_bar (c : Dev nD) : (rd (F := F) m ρ).duties (barCell c) 0 = {1, 3, 4} := by
  dsimp only [rd]; rw [if_pos ⟨rfl, rfl⟩, dec_bar]; rfl
omit [FloatOps F] in
/-- A transfer ends once at its sender. -/
theorem duties_send (c : Dev nD) {y : Qt} (h : y ∈ sOrd) : (rd (F := F) m ρ).duties (sendCell c y) 0 = {0} := by
  dsimp only [rd]; rw [if_pos ⟨rfl, rfl⟩, dec_send]; exact if_pos h
omit [FloatOps F] in
/-- A transfer ends once at its receiver. -/
theorem duties_recv (c : Dev nD) {y : Qt} (h : y ∈ sOrd) : (rd (F := F) m ρ).duties (recvCell c y) 0 = {0} := by
  dsimp only [rd]; rw [if_pos ⟨rfl, rfl⟩, dec_recv]; exact if_pos h
omit [FloatOps F] in
/-- Nothing is signalled after the one round. -/
theorem duties_later (g : GSem nD τ sig) (r : ℕ) (h : 1 ≤ r) : (rd (F := F) m ρ).duties g r = ∅ := by
  dsimp only [rd]; exact if_neg fun h' => by omega
omit [FloatOps F] in
/-- The sender's semaphores of slot 0 are never signalled. -/
theorem duties_own_send (c : Dev nD) {y : Qt} (h : y ∉ sOrd) (r : ℕ) : (rd (F := F) m ρ).duties (sendCell c y) r = ∅ := by
  dsimp only [rd]; split
  · rw [dec_send]; exact if_neg h
  · rfl
omit [FloatOps F] in
/-- The receiver's semaphores of slot 0 are never signalled. -/
theorem duties_own_recv (c : Dev nD) {y : Qt} (h : y ∉ sOrd) (r : ℕ) : (rd (F := F) m ρ).duties (recvCell c y) r = ∅ := by
  dsimp only [rd]; split
  · rw [dec_recv]; exact if_neg h
  · rfl

omit [FloatOps F] in
/-- A signal to the barrier counts one. -/
theorem amount_bar (c : Dev nD) (d : Fin 8) : (rd (F := F) m ρ).amount (barCell c) 0 d = 1 := by dsimp only [rd]; exact if_pos rfl
omit [FloatOps F] in
/-- The end of a transfer counts a quarter's bytes. -/
theorem amount_dma (c : Dev nD) (s : DmaSem sig) (d : Fin 8) : (rd (F := F) m ρ).amount ((c : Thread nD τ), .dma s) 0 d = N := by dsimp only [rd]; exact if_neg (fun h => by cases h)

omit [FloatOps F] in
/-- The barrier waits for three. -/
theorem expect_bar (c : Dev nD) : (rd (F := F) m ρ).expect (barCell c) 0 = 3 := by
  unfold Schedule.expect Schedule.amountOf
  rw [duties_bar, Finset.sum_congr rfl fun d _ => amount_bar m ρ c d]; rfl
omit [FloatOps F] in
/-- The wait for a departure is for a quarter. -/
theorem expect_send (c : Dev nD) {y : Qt} (h : y ∈ sOrd) : (rd (F := F) m ρ).expect (sendCell c y) 0 = N := by
  unfold Schedule.expect Schedule.amountOf; rw [duties_send m ρ c h, Finset.sum_singleton, amount_dma]
omit [FloatOps F] in
/-- The wait for an arrival is for a quarter. -/
theorem expect_recv (c : Dev nD) {y : Qt} (h : y ∈ sOrd) : (rd (F := F) m ρ).expect (recvCell c y) 0 = N := by
  unfold Schedule.expect Schedule.amountOf; rw [duties_recv m ρ c h, Finset.sum_singleton, amount_dma]

omit [FloatOps F] in
/-- A neighbour's signal hands over its room for what comes over the link. -/
theorem payload_bar (c : Dev nD) (d : Fin 8) :
    (rd (F := F) m ρ).payload (barCell c) 0 d = bigSepL (over d) (fun y => room (F := F) (px d c) y) := by
  show payloadOf m ρ c d (dec _) = _; rw [dec_bar]; rfl
omit [FloatOps F] in
/-- A departure hands back what was lent. -/
theorem payload_send (c : Dev nD) (y : Qt) (d : Fin 8) : (rd (F := F) m ρ).payload (sendCell c y) 0 d = lent m ρ c y := by
  show payloadOf m ρ c d (dec _) = _; rw [dec_send]; rfl
omit [FloatOps F] in
/-- An arrival hands over the quarter, filled. -/
theorem payload_recv (c : Dev nD) (y : Qt) (d : Fin 8) : (rd (F := F) m ρ).payload (recvCell c y) 0 d = qPts c y fullShare (slots m ρ c) := by
  show payloadOf m ρ c d (dec _) = _; rw [dec_recv]; rfl

omit [FloatOps F] in
/-- All of a round that a waiter collects. -/
theorem rest_bar (c : Dev nD) :
    bigSep ((rd (F := F) m ρ).duties (barCell c) 0 \ ∅) (fun d => (rd (F := F) m ρ).payload (barCell c) 0 d)
      = bigSepL [1, 3, 4] (fun d => bigSepL (over d) (fun y => room (F := F) (px d c) y)) := by
  rw [Finset.sdiff_empty, duties_bar, bigSep_eq_bigSepL_of_eq [1, 3, 4] (by decide) (by decide)]
  simp only [payload_bar]
omit [FloatOps F] in
/-- What a wait for a departure collects. -/
theorem rest_send (c : Dev nD) {y : Qt} (h : y ∈ sOrd) :
    bigSep ((rd (F := F) m ρ).duties (sendCell c y) 0 \ ∅) (fun d => (rd (F := F) m ρ).payload (sendCell c y) 0 d) = lent m ρ c y := by
  rw [Finset.sdiff_empty, duties_send m ρ c h, bigSep_singleton, payload_send]
omit [FloatOps F] in
/-- What a wait for an arrival collects. -/
theorem rest_recv (c : Dev nD) {y : Qt} (h : y ∈ sOrd) :
    bigSep ((rd (F := F) m ρ).duties (recvCell c y) 0 \ ∅) (fun d => (rd (F := F) m ρ).payload (recvCell c y) 0 d) = qPts c y fullShare (slots m ρ c) := by
  rw [Finset.sdiff_empty, duties_recv m ρ c h, bigSep_singleton, payload_recv]

/-! ## What is owed, and the order of waiting -/

/-- What device `c` owes for the transfers `ys` still to be issued: to each receiver's semaphore the bytes of a quarter. -/
def owed (c : Dev nD) : List Qt → CellTallies nD τ sig Unit
  | [] => 0
  | y :: ys => owed c ys + tallyAt (recvCell (px (link y) c) y) () N

/-- A unit owed to the barrier across link `g`. -/
def owedBar (c : Dev nD) (g : Fin 8) : CellTallies nD τ sig Unit := tallyAt (barCell (px g c)) () 1

/-- At the start: all transfers, and a unit to the barrier across each link, in the order of the signals. -/
def O₀ (c : Dev nD) : CellTallies nD τ sig Unit := owed c sOrd + owedBar c 4 + owedBar c 3 + owedBar c 1

/-- Every semaphore of a core has a level. -/
def L (g : GSem nD τ sig) : Finset Unit := if g.1.2 = .tc then {()} else ∅

/-- Semaphores wait in order of height: the barrier, then arrivals by the number of their hops. -/
def lv (g : GSem nD τ sig) (_ : Unit) : ℕ :=
  match dec g.2 with
  | some (.inl _) => 1
  | some (.inr (.inr y)) => height y
  | _ => 0

/-- Other threads' semaphores have none. -/
theorem L_of_ne (g : GSem nD τ sig) (h : g.1.2 ≠ .tc) : L g = ∅ := if_neg h
/-- A core's semaphores have one. -/
theorem L_tc (c : Dev nD) (sm : SemLoc sig) : L ((c : Thread nD τ), sm) = {()} := if_pos rfl
/-- The level of the barrier. -/
theorem lv_bar (c : Dev nD) : lv (barCell c) () = 1 := by unfold lv; rw [dec_bar]
/-- The level of a departure: below everything. -/
theorem lv_send (c : Dev nD) (y : Qt) : lv (sendCell c y) () = 0 := by unfold lv; rw [dec_send]
/-- The level of an arrival: its height. -/
theorem lv_recv (c : Dev nD) (y : Qt) : lv (recvCell c y) () = height y := by unfold lv; rw [dec_recv]

/-- What is owed in a sum is owed in one of its terms. -/
theorem add_pos_cases {D E : CellTallies nD τ sig Unit} {g : GSem nD τ sig} {u : Unit} (h : 0 < (D + E) g u) : 0 < D g u ∨ 0 < E g u := by
  rw [Pi.add_apply, Finsupp.add_apply] at h; omega

/-- What is owed to one semaphore is owed to no other. -/
theorem tallyAt_pos {g₀ g : GSem nD τ sig} {n : ℕ} {u : Unit} (h : 0 < (tallyAt g₀ () n : CellTallies nD τ sig Unit) g u) : g = g₀ := by
  rw [tallyAt_apply] at h
  by_contra hn
  rw [if_neg (fun h' => hn h'.1)] at h; exact Nat.lt_irrefl 0 h

/-- What is owed for transfers is owed to their arrivals. -/
theorem owed_pos {c : Dev nD} {ys : List Qt} {g : GSem nD τ sig} {u : Unit} (h : 0 < owed c ys g u) : ∃ y ∈ ys, g = recvCell (px (link y) c) y := by
  induction ys with
  | nil => exact absurd h (Nat.lt_irrefl 0)
  | cons y ys ih =>
    rcases add_pos_cases h with h | h
    · obtain ⟨z, hz, e⟩ := ih h; exact ⟨z, List.mem_cons_of_mem _ hz, e⟩
    · exact ⟨y, List.mem_cons_self, tallyAt_pos h⟩

omit [FloatOps F] in
/-- A device may wait where everything it owes lies higher. -/
theorem may_wait (c : Dev nD) (sm : SemLoc sig) (O : CellTallies nD τ sig Unit)
    (h : ∀ (g : GSem nD τ sig) (u : Unit), 0 < O g u → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

omit [FloatOps F] in
/-- A device may wait below the transfers it has still to issue. -/
theorem may_wait_owed (c : Dev nD) (sm : SemLoc sig) (ys : List Qt) (h : ∀ y ∈ ys, lv ((c : Thread nD τ), sm) () < height y) :
    (levAts L lv : sProp 𝕄) ⊢ MayWait (c : Thread nD τ) sm () (owed c ys) :=
  may_wait c sm _ fun g u hg => by
    obtain ⟨y, hy, rfl⟩ := owed_pos hg
    exact ⟨rfl, by rw [lv_recv]; exact h y hy⟩

/-- Whatever is owed at the start has a positive level. -/
theorem O₀_pos {c : Dev nD} {g : GSem nD τ sig} {u : Unit} (h : 0 < O₀ c g u) : g.1.2 = .tc ∧ 0 < lv g () := by
  have hb : ∀ {k : Fin 8}, 0 < owedBar c k g u → g.1.2 = .tc ∧ 0 < lv g () := fun h => by
    rw [tallyAt_pos h]; exact ⟨rfl, by rw [lv_bar]; decide⟩
  rcases add_pos_cases h with h | h
  · rcases add_pos_cases h with h | h
    · rcases add_pos_cases h with h | h
      · obtain ⟨y, hy, rfl⟩ := owed_pos h; exact ⟨rfl, by rw [lv_recv]; exact lt_trans Nat.one_pos (height_gt_one y)⟩
      · exact hb h
    · exact hb h
  · exact hb h

end Cert.KernelIdealProof

end
-- ==== Proof.KernelIdeal.Contents.lean ====
/-
  What the kernel's reads and writes mean for contents: which cells a quarter, a half and a slot are; that a transfer
  carries `slots` to `slots`; that loading a half gives the half block; that the stores of the sixteen products make up
  the result.
-/
module

public import proofs.«01_k».proof.Proof.KernelIdeal.Proto

@[expose] public section

noncomputable section

namespace Cert.KernelIdealProof

open Cert.KernelIdeal Cert.KernelIdeal.Gen Cert.Plan

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-! ## Cells -/

/-- A cell is in a quarter if its slot is the quarter's and its row is among the quarter's 192. -/
theorem mem_quarter (y : Qt) (i : S8x768x384.Idx) :
    i ∈ (qM y).view.set ↔ (i 0).val = y.1.val ∧ 192 * y.2.val ≤ (i 1).val ∧ (i 1).val < 192 * y.2.val + 192 := by
  have e : (qM y).view.set = (qR y).set := by
    exact (View.set_reshape (gM.slice (qR y) (fun _ => rfl)).view _).trans (View.set_slice_whole _ _)
  rw [e, Rect.mem_set_unit]
  have h2 : (i 2).val < 384 := (i 2).isLt
  constructor
  · intro h
    have h0 := h 0; have h1 := h 1
    simp only [S1x192x384, Matrix.cons_val_zero, Matrix.cons_val_one] at h0 h1
    exact ⟨by omega, by omega, by omega⟩
  · rintro ⟨h0, h1, h1'⟩ a
    fin_cases a
    · show y.1.val ≤ (i 0).val ∧ (i 0).val < y.1.val + 1; omega
    · exact ⟨h1, h1'⟩
    · exact ⟨Nat.zero_le _, by show (i 2).val < 0 + 384; omega⟩

/-- Different quarters share no cell. -/
theorem quarter_disj {y z : Qt} (h : y ≠ z) : Disjoint (qM y).view.set (qM z).view.set :=
  Finset.disjoint_left.mpr fun i hi hj => h (by
    have h1 := (mem_quarter y i).mp hi; have h2 := (mem_quarter z i).mp hj
    exact qt_ext (by omega))

/-- A cell is in a half if its slot is the half's and its row is among the half's 384. -/
theorem mem_half (x : Fin 8 × Fin 2) (i : S8x768x384.Idx) :
    i ∈ (hR x).set ↔ (i 0).val = x.1.val ∧ 384 * x.2.val ≤ (i 1).val ∧ (i 1).val < 384 * x.2.val + 384 := by
  rw [Rect.mem_set_unit]
  have h2 : (i 2).val < 384 := (i 2).isLt
  constructor
  · intro h
    have h0 := h 0; have h1 := h 1
    simp only [S1x384x384, Matrix.cons_val_zero, Matrix.cons_val_one] at h0 h1
    exact ⟨by omega, by omega, by omega⟩
  · rintro ⟨h0, h1, h1'⟩ a
    fin_cases a
    · show x.1.val ≤ (i 0).val ∧ (i 0).val < x.1.val + 1; omega
    · exact ⟨h1, h1'⟩
    · exact ⟨Nat.zero_le _, by show (i 2).val < 0 + 384; omega⟩

/-- The first of the two quarters of a half. -/
def lowQ (x : Fin 8 × Fin 2) : Qt := (x.1, ⟨2 * x.2.val, by omega⟩)
/-- The second of the two quarters of a half. -/
def highQ (x : Fin 8 × Fin 2) : Qt := (x.1, ⟨2 * x.2.val + 1, by omega⟩)

/-- The two quarters of a half are different. -/
theorem low_ne_high (x : Fin 8 × Fin 2) : lowQ x ≠ highQ x := fun h => by
  have := congrArg (fun y : Qt => y.2.val) h; simp only [lowQ, highQ] at this; omega

/-- A half lies within its two quarters. -/
theorem half_sub (x : Fin 8 × Fin 2) : (hR x).set ⊆ (qM (lowQ x)).view.set ∪ (qM (highQ x)).view.set := fun i hi => by
  rw [Finset.mem_union, mem_quarter, mem_quarter]
  have := (mem_half x i).mp hi
  simp only [lowQ, highQ]; omega

/-- The quarters make up all eight slots. -/
theorem all_cells : (Finset.univ : Finset S8x768x384.Idx) = Finset.univ.biUnion fun y : Qt => (qM y).view.set := by
  ext i
  have h0 : (i 0).val < 8 := (i 0).isLt
  have h1 : (i 1).val < 768 := (i 1).isLt
  refine iff_of_true (Finset.mem_univ _) (Finset.mem_biUnion.mpr ⟨(⟨(i 0).val, h0⟩, ⟨(i 1).val / 192, by omega⟩), Finset.mem_univ _, ?_⟩)
  rw [mem_quarter]; refine ⟨rfl, ?_, ?_⟩ <;> simp only <;> omega

/-! ## Indices from coordinates -/

/-- Indices with equal coordinates are equal. -/
theorem ix2_congr {a b : Nat} {i i' : Fin a} {j j' : Fin b} (hi : i.val = i'.val) (hj : j.val = j'.val) : ix2 i j = ix2 i' j' := by
  rw [Fin.ext hi, Fin.ext hj]

/-- An index of a two-axis shape is made of its coordinates. -/
theorem ix2_eta {a b : Nat} (x : (⟨2, ![a, b]⟩ : Shape).Idx) : x = ix2 (a := a) (b := b) (x 0) (x 1) := by
  funext k; fin_cases k <;> rfl

omit [FloatOps F] in
/-- Cells of two devices' slots that stand for the same entry of `A` are to hold the same. -/
theorem slots_congr {c d : Dev nD} {i j : S8x768x384.Idx} (h0 : px (i 0) c = px (j 0) d) (h1 : (i 1).val = (j 1).val) (h2 : (i 2).val = (j 2).val) :
    slots m ρ c i = slots m ρ d j := by
  show aStg m ρ (px (i 0) c) (ix2 (a := 768) (b := 384) (i 1) (i 2)) = aStg m ρ (px (j 0) d) (ix2 (a := 768) (b := 384) (j 1) (j 2))
  exact congr (congrArg (aStg m ρ) h0) (ix2_congr h1 h2)

/-! ## A transfer -/

/-- Where a quarter's entry lies in the slots. -/
theorem quarter_emb (y : Qt) (x : S192x384.Idx) :
    ((qM y).view.emb x 0).val = y.1.val ∧ ((qM y).view.emb x 1).val = 192 * y.2.val + (x 0).val ∧ ((qM y).view.emb x 2).val = (x 1).val := by
  have e : (qM y).view.emb x = (qR y).emb (Fin.cons ⟨0, Nat.one_pos⟩ x) := by
    show (qR y).emb (Shape.reshapeEquiv _ x) = _
    exact congrArg _ (Shape.reshapeEquiv_cons_one _ x)
  rw [e]
  refine ⟨?_, ?_, ?_⟩
  · show y.1.val + 1 * 0 = _; omega
  · show 192 * y.2.val + 1 * (x 0).val = _; omega
  · show 0 + 1 * (x 1).val = _; omega

omit [FloatOps F] in
/-- What lands in quarter `y` of the device across `link y`, read from the sender's quarter `src y`, is what `slots` says there. -/
theorem landing (c : Dev nD) (y : Qt) (fd : Buf (Elt F) ((qM y).view.loc (px (link y) c : Thread nD τ)))
    (i : S8x768x384.Idx) (hi : i ∈ (qM y).view.set) :
    (qM y).view.write (Elt F) fd ((qM (src y)).view.read (Elt F) (slots m ρ c)) Finset.univ i = slots m ρ (px (link y) c) i := by
  obtain ⟨x, -, rfl⟩ := Finset.mem_map.mp hi
  refine (View.write_emb_of_mem (v := (qM y).view) fd _ (Finset.mem_univ x)).trans ?_
  show slots m ρ c ((qM (src y)).view.emb x) = slots m ρ (px (link y) c) ((qM y).view.emb x)
  obtain ⟨a0, a1, a2⟩ := quarter_emb (src y) x
  obtain ⟨b0, b1, b2⟩ := quarter_emb y x
  refine slots_congr m ρ ?_ ?_ ?_
  · rw [show ((qM (src y)).view.emb x 0 : Fin 8) = (src y).1 from Fin.ext a0, show ((qM y).view.emb x 0 : Fin 8) = y.1 from Fin.ext b0]
    exact px_src y c
  · rw [a1, b1, src_snd]
  · rw [a2, b2]

/-! ## Loads -/

omit [FloatOps F] in
/-- Loading half `x` of the slots gives that half of the block they hold. -/
theorem load_half (c : Dev nD) (x : Fin 8 × Fin 2) :
    (gM : Memref sig .tc .vmem S8x768x384 .bf16).view.readAt (Elt F) (hR x).toLoadRect (slots m ρ c) = aHalf m ρ (px x.1 c) x.2 := by
  funext k
  show slots m ρ c ((hR x).emb k) = _
  have h0 : ((hR x).emb k 0).val = x.1.val := by
    have : (k 0).val < 1 := (k 0).isLt
    show x.1.val + 1 * (k 0).val = _; omega
  have h1 : ((hR x).emb k 1).val = 384 * x.2.val + (k 1).val := by show 384 * x.2.val + 1 * (k 1).val = _; omega
  have h2 : ((hR x).emb k 2).val = (k 2).val := by show 0 + 1 * (k 2).val = _; omega
  exact congr (congrArg (fun s => aStg m ρ (px s c)) (Fin.ext h0)) (ix2_congr h1 h2)

/-- Two zero offsets, as a function. -/
theorem zeros2 : (![0, 0] : Fin 2 → Nat) = fun _ => 0 := funext fun a => by fin_cases a <;> rfl

/-- The whole of the staged block of `A`, as a rectangle. -/
abbrev aR : Rect S768x384 := Rect.unit (s := S768x384) ![0, 0] S768x384.size inb_S768x384_S768x384_0_0
/-- The whole of the staged `B`, as a rectangle. -/
abbrev bR : Rect S384x768 := Rect.unit (s := S384x768) ![0, 0] S384x768.size inb_S384x768_S384x768_0_0

omit [FloatOps F] in
/-- Loading all of the staged block of `A` gives it. -/
theorem load_a (f : (cc0_stg0_0 : Ref sig .tc).ty.Contents (Elt F)) : (aM : Memref sig .tc .vmem S768x384 .bf16).view.readAt (Elt F) aR.toLoadRect f = f :=
  Memref.readAt_unit_zero (Elt F) cc0_stg0_0 zeros2 _ f
omit [FloatOps F] in
/-- Loading all of the staged `B` gives it. -/
theorem load_b (f : (cc0_stg1_0 : Ref sig .tc).ty.Contents (Elt F)) : (bM : Memref sig .tc .vmem S384x768 .bf16).view.readAt (Elt F) bR.toLoadRect f = f :=
  Memref.readAt_unit_zero (Elt F) cc0_stg1_0 zeros2 _ f

/-! ## The device's own block, stored into slot 0 -/

/-- Slot 0, as a rectangle. -/
abbrev slotR : Rect S8x768x384 := Rect.unit (s := S8x768x384) ![0, 0, 0] S1x768x384.size inb_S8x768x384_S1x768x384_0_0_0

/-- A cell is in slot 0 if its first coordinate is 0. -/
theorem mem_slot (i : S8x768x384.Idx) : i ∈ slotR.set ↔ (i 0).val = 0 := by
  rw [Rect.mem_set_unit]
  have h1 : (i 1).val < 768 := (i 1).isLt
  have h2 : (i 2).val < 384 := (i 2).isLt
  constructor
  · intro h
    have h0 := h 0
    simp only [S1x768x384, Matrix.cons_val_zero] at h0
    omega
  · intro h0 a
    fin_cases a
    · show 0 ≤ (i 0).val ∧ (i 0).val < 0 + 1; omega
    · exact ⟨Nat.zero_le _, by show (i 1).val < 0 + 768; omega⟩
    · exact ⟨Nat.zero_le _, by show (i 2).val < 0 + 384; omega⟩

/-- Slot 0 is its four quarters. -/
theorem slot_eq : slotR.set = (Finset.univ : Finset (Fin 4)).biUnion fun q => (qM (0, q)).view.set := by
  ext i
  rw [mem_slot, Finset.mem_biUnion]
  have h1 : (i 1).val < 768 := (i 1).isLt
  constructor
  · intro h
    refine ⟨⟨(i 1).val / 192, by omega⟩, Finset.mem_univ _, (mem_quarter _ i).mpr ⟨h, ?_, ?_⟩⟩ <;> simp only <;> omega
  · rintro ⟨q, -, hq⟩
    exact ((mem_quarter _ i).mp hq).1

omit [FloatOps F] in
/-- What is stored into slot 0 is the own block, entry by entry. -/
theorem pay1_apply (v : Vec F S768x384 .bf16) (k : S1x768x384.Idx) : k0_pay1 v k = v (ix2 (a := 768) (b := 384) (k 1) (k 2)) := by
  have hk : k = Shape.reshapeEquiv (s := S1x768x384) (s' := S768x384) (by decide) (ix2 (a := 768) (b := 384) (k 1) (k 2)) := by
    refine Eq.trans ?_ (Shape.reshapeEquiv_cons_one (d := ![768, 384]) _ _).symm
    funext a; fin_cases a
    · exact Fin.ext (by have : (k 0).val < 1 := (k 0).isLt; show (k 0).val = 0; omega)
    · rfl
    · rfl
  show v (Shape.reshapeEquiv _ (Shape.reshapeEquiv _ k)) = _
  rw [Shape.reshapeEquiv_reshapeEquiv]
  conv_lhs => rw [hk]
  rw [Shape.reshapeEquiv_reshapeEquiv, Shape.reshapeEquiv_self]

omit [FloatOps F] in
/-- After the own block is stored, slot 0 holds what it is to hold. -/
theorem store_own (c : Dev nD) (f : Buf (Elt F) ((gM : Memref sig .tc .vmem S8x768x384 .bf16).view.loc (c : Thread nD τ)))
    (i : S8x768x384.Idx) (hi : i ∈ slotR.set) :
    (gM.access slotR : View sig .tc _ _ _).write (Elt F) f (k0_pay1 (aStg m ρ c)) Finset.univ i = slots m ρ c i := by
  rw [← Rect.map_emb_univ] at hi
  obtain ⟨k, -, rfl⟩ := Finset.mem_map.mp hi
  refine (View.write_emb_of_mem (v := gM.access slotR) f _ (Finset.mem_univ k)).trans ?_
  refine (pay1_apply (aStg m ρ c) k).trans ?_
  have h0 : (slotR.emb k 0).val = 0 := by
    have : (k 0).val < 1 := (k 0).isLt
    show 0 + 1 * (k 0).val = _; omega
  have h1 : (slotR.emb k 1).val = (k 1).val := by show 0 + 1 * (k 1).val = _; omega
  have h2 : (slotR.emb k 2).val = (k 2).val := by show 0 + 1 * (k 2).val = _; omega
  refine congr (congrArg (aStg m ρ) ?_) (ix2_congr h1.symm h2.symm)
  exact (px_zero c).symm.trans (congrArg (fun s => px s c) (Fin.ext h0).symm)

/-! ## The result -/

/-- Where the product of half `h` of device `d`'s block goes. -/
theorem off_eq (c : Dev nD) (s : Fin 8) (h : Fin 2) :
    k0_off1 c (BitVec.ofNat 32 s.val) (BitVec.ofNat 32 (384 * h.val)) = ![768 * (px s c).val + 384 * h.val, 0] := by
  revert c s h; decide +kernel

/-- The rows of the result that half `x` of the slots stands for. -/
def inRows (c : Dev nD) (x : Fin 8 × Fin 2) (i : S6144x768.Idx) : Prop :=
  768 * (px x.1 c).val + 384 * x.2.val ≤ (i 0).val ∧ (i 0).val < 768 * (px x.1 c).val + 384 * x.2.val + 384

/-- `f` is the result on the rows of the halves listed. -/
def doneOn (c : Dev nD) (l : List (Fin 8 × Fin 2)) (f : (cc0_stg2_0 : Ref sig .tc).ty.Contents (Elt F)) : Prop :=
  ∀ x ∈ l, ∀ i : S6144x768.Idx, inRows c x i → f i = result m ρ c i

/-- The 384 rows of the result for half `x` of the slots: those of the device across. -/
abbrev oR (c : Dev nD) (x : Fin 8 × Fin 2) : Rect S6144x768 :=
  Rect.unit (s := S6144x768) (k0_off1 c (BitVec.ofNat 32 x.1.val) (BitVec.ofNat 32 (384 * x.2.val))) S384x768.size (k0_off1_inb c x.1 x.2)

/-- Where an entry of a half product lies in the result. -/
theorem oR_emb (c : Dev nD) (x : Fin 8 × Fin 2) (k : S384x768.Idx) :
    ((oR c x).emb k 0).val = 768 * (px x.1 c).val + 384 * x.2.val + (k 0).val ∧ ((oR c x).emb k 1).val = (k 1).val := by
  have e0 : ((oR c x).emb k 0).val = k0_off1 c (BitVec.ofNat 32 x.1.val) (BitVec.ofNat 32 (384 * x.2.val)) 0 + 1 * (k 0).val := rfl
  have e1 : ((oR c x).emb k 1).val = k0_off1 c (BitVec.ofNat 32 x.1.val) (BitVec.ofNat 32 (384 * x.2.val)) 1 + 1 * (k 1).val := rfl
  rw [off_eq] at e0 e1
  exact ⟨e0.trans (by show 768 * (px x.1 c).val + 384 * x.2.val + 1 * _ = _; omega), e1.trans (by show 0 + 1 * _ = _; omega)⟩

/-- At the rows of half `x`, the result is the product of that half. -/
theorem result_at (c : Dev nD) (x : Fin 8 × Fin 2) (k : S384x768.Idx) :
    result m ρ c ((oR c x).emb k) = part m ρ c (px x.1 c) x.2 k := by
  obtain ⟨h0, h1⟩ := oR_emb c x k
  have hk : (k 0).val < 384 := (k 0).isLt
  have hp : (px x.1 c).val < 8 := (px x.1 c).isLt
  have hx : x.2.val < 2 := x.2.isLt
  unfold result
  refine congr (congr (congrArg (part m ρ c) (Fin.ext ?_)) (Fin.ext ?_)) ?_
  · show ((oR c x).emb k 0).val / 768 = _; rw [h0]; omega
  · show ((oR c x).emb k 0).val % 768 / 384 = _; rw [h0]; omega
  · refine Eq.trans (ix2_congr ?_ h1) (ix2_eta k).symm
    show ((oR c x).emb k 0).val % 384 = _; rw [h0]; omega

/-- Storing the product of half `x` at its rows adds them to the rows where the contents are the result. -/
theorem store_part (c : Dev nD) (x : Fin 8 × Fin 2) (l : List (Fin 8 × Fin 2)) (f : (cc0_stg2_0 : Ref sig .tc).ty.Contents (Elt F))
    (h : doneOn m ρ c l f) :
    doneOn m ρ c (l ++ [x]) ((oM.access (oR c x) : View sig .tc _ _ _).write (Elt F) f (part m ρ c (px x.1 c) x.2) Finset.univ) := by
  have hit : ∀ k : S384x768.Idx, (oM.access (oR c x) : View sig .tc _ _ _).write (Elt F) f (part m ρ c (px x.1 c) x.2) Finset.univ ((oR c x).emb k)
      = result m ρ c ((oR c x).emb k) := fun k =>
    (View.write_emb_of_mem (v := oM.access (oR c x)) f _ (Finset.mem_univ k)).trans (result_at m ρ c x k).symm
  have cover : ∀ i : S6144x768.Idx, i ∈ (oR c x).set → ∃ k, (oR c x).emb k = i := fun i hi => by
    rw [← Rect.map_emb_univ] at hi
    obtain ⟨k, -, rfl⟩ := Finset.mem_map.mp hi
    exact ⟨k, rfl⟩
  intro z hz i hi
  by_cases hx : i ∈ (oR c x).set
  · obtain ⟨k, rfl⟩ := cover i hx
    exact hit k
  · have hm : z ∈ l := by
      rcases List.mem_append.mp hz with hz | hz
      · exact hz
      · exfalso
        rw [List.mem_singleton.mp hz] at hi
        refine hx (Rect.mem_set_unit.mpr fun a => ?_)
        rw [off_eq]
        have h1 : (i 1).val < 768 := (i 1).isLt
        fin_cases a
        · exact hi
        · exact ⟨Nat.zero_le _, by show (i 1).val < 0 + 768; omega⟩
    refine Eq.trans (View.write_of_not_mem (v := oM.access (oR c x)) f _ Finset.univ ?_) (h z hm i hi)
    rw [View.setOn_univ]
    exact fun h' => hx (by rwa [View.set_slice_whole] at h')

/-- The sixteen halves cover the result. -/
theorem done_all (c : Dev nD) (f : (cc0_stg2_0 : Ref sig .tc).ty.Contents (Elt F)) (h : doneOn m ρ c cOrd f) : f = result m ρ c := by
  funext i
  have hi : (i 0).val < 6144 := (i 0).isLt
  have mem : ∀ (s : Fin 8) (e : Fin 2), (s, e) ∈ cOrd := by decide
  have key : ∀ d : Fin 8, px (px d c) c = d := fun d => px_swap d c
  refine h (px ⟨(i 0).val / 768, by omega⟩ c, ⟨(i 0).val % 768 / 384, by omega⟩) (mem _ _) i ?_
  unfold inRows
  rw [key]
  constructor <;> simp only <;> omega

end Cert.KernelIdealProof

end
-- ==== Proof.KernelIdeal.State.lean ====
/-
  What a device holds between two operations of its kernel, given how many transfers it has issued, how many arrivals and
  how many departures it has waited for, and how many products it has stored.
-/
module

public import proofs.«01_k».proof.Proof.Chains
public import proofs.«01_k».proof.Proof.KernelIdeal.Contents

@[expose] public section

noncomputable section

namespace Cert.KernelIdealProof

open Cert.KernelIdeal Cert.KernelIdeal.Gen Cert.Plan Cert.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Shares of the quarters -/

omit [FloatOps F] in
/-- A share of a quarter is its two halves. -/
theorem qPts_halve (c : Dev nD) (y : Qt) (q : PosShare TreeShare) (f) :
    (qPts c y q f : sProp 𝕄) = iprop(qPts c y q.left f ∗ qPts c y q.right f) := by
  unfold qPts
  have h := pointsTo_share (Ix := Unit) (Name := ℕ) (U := UU) (Lvl := ℕ) (ℓ := (qM y).view.loc (c : Thread nD τ)) (I := (qM y).view.set) (f := f) (PosShare.mem_left_op_right q)
  exact h.1.antisymm h.2

/-- The lending half of a quarter that no transfer reads. -/
def idle (c : Dev nD) (y : Qt) : sProp 𝕄 := if outs y = [] then qPts c y fullShare.left (slots m ρ c) else iprop(emp)

/-- The reading half of a quarter, and its lending half if that is not lent. -/
def kept (c : Dev nD) (y : Qt) : sProp 𝕄 := iprop(qPts c y fullShare.right (slots m ρ c) ∗ idle m ρ c y)

/-- A quarter is read by no transfer, by one, or, in slot 0, by three. -/
theorem outs_cases (y : Qt) :
    outs y = [] ∨ (∃ z, outs y = [z] ∧ src z = y ∧ z.1 ≠ 1 ∧ z.1 ≠ 3 ∧ z.1 ≠ 4) ∨ (y.1 = 0 ∧ outs y = [(1, y.2), (3, y.2), (4, y.2)]) := by
  revert y; decide +kernel

/-- All transfers but those from slot 0 are lent the whole lending half. -/
theorem lsh_other {z : Qt} (h1 : z.1 ≠ 1) (h3 : z.1 ≠ 3) (h4 : z.1 ≠ 4) : lsh z = fullShare.left := by
  unfold lsh; split <;> first | rfl | contradiction

omit [FloatOps F] in
/-- The lending half of a quarter is what its transfers are lent, and nothing more. -/
theorem lend_split (c : Dev nD) (y : Qt) :
    (qPts c y fullShare.left (slots m ρ c) : sProp 𝕄) = iprop(bigSepL (outs y) (lent m ρ c) ∗ idle m ρ c y) := by
  unfold idle
  rcases outs_cases y with h | ⟨z, h, hz, h1, h3, h4⟩ | ⟨h0, h⟩
  · rw [h, if_pos rfl]; exact (equiv_iff.mp (BI.emp_sep)).symm
  · rw [h, if_neg (by simp), bigSepL_singleton]
    unfold lent
    rw [lsh_other h1 h3 h4, hz]; exact (equiv_iff.mp (BI.sep_emp)).symm
  · rw [h, if_neg (by simp), bigSepL_cons', bigSepL_cons', bigSepL_singleton]
    obtain ⟨s, q⟩ := y
    subst h0
    rw [qPts_halve c _ fullShare.left, qPts_halve c _ fullShare.left.right]
    exact (equiv_iff.mp (BI.sep_emp)).symm

omit [FloatOps F] in
/-- A quarter that holds its contents, ready for use: what is kept, and what its transfers are lent. -/
theorem quarter_open (c : Dev nD) (y : Qt) :
    (qPts c y fullShare (slots m ρ c) : sProp 𝕄) = iprop(kept m ρ c y ∗ bigSepL (outs y) (lent m ρ c)) := by
  rw [qPts_halve, lend_split]
  unfold kept
  refine eq_of ?_ ?_
  · iintro ⟨⟨H1, H2⟩, H3⟩
    isplitl [H3 H2]
    · isplitl [H3] <;> iassumption
    iexact H1
  · iintro ⟨⟨H3, H2⟩, H1⟩
    isplitl [H1 H2]
    · isplitl [H1] <;> iassumption
    iexact H3

omit [FloatOps F] in
/-- A share of a quarter, in terms of its cells. -/
theorem qPts_eq (c : Dev nD) (y : Qt) (q : PosShare TreeShare) (f : Buf (Elt F) ((c : Thread nD τ).loc cc0_scratch0)) :
    (qPts c y q f : sProp 𝕄) = (((c : Thread nD τ).loc cc0_scratch0) ↦[((qM y).view.set : Finset S8x768x384.Idx)]{q} f) := rfl

/-- The cells of a quarter. -/
abbrev qCells (y : Qt) : Finset S8x768x384.Idx := (qM y).view.set

omit [FloatOps F] in
/-- Quarters of one device that are disjoint may be held apart. -/
theorem quarters_join (c : Dev nD) (T : Type) [Fintype T] [DecidableEq T] (e : T → Qt) (he : Function.Injective e) (f : Buf (Elt F) ((c : Thread nD τ).loc cc0_scratch0)) :
    ((((c : Thread nD τ).loc cc0_scratch0) ↦[Finset.univ.biUnion fun t => qCells (e t)]{fullShare} f : sProp 𝕄))
      = bigSep Finset.univ fun t => qPts c (e t) fullShare f :=
  pointsTo_biUnion (ℓ := (c : Thread nD τ).loc cc0_scratch0) Finset.univ (fun t => qCells (e t)) fun t _ t' _ h => quarter_disj fun h' => h (he h')

omit [FloatOps F] in
/-- The slots as a whole are their quarters. -/
theorem slots_split (c : Dev nD) (f : Buf (Elt F) ((c : Thread nD τ).loc cc0_scratch0)) :
    ((((c : Thread nD τ).loc cc0_scratch0) ↦{fullShare} f : sProp 𝕄)) = bigSepL (own ++ sOrd) (fun y => qPts c y fullShare f) := by
  rw [← bigSep_univ_eq_bigSepL _ all_univ all_nodup, show (bigSep Finset.univ fun y : Qt => (qPts c y fullShare f : sProp 𝕄)) = bigSep Finset.univ fun y : Qt => (qPts c (id y) fullShare f : sProp 𝕄) from rfl,
    ← quarters_join c Qt id Function.injective_id f]
  exact congrArg (fun S : Finset S8x768x384.Idx => (((c : Thread nD τ).loc cc0_scratch0) ↦[S]{fullShare} f : sProp 𝕄)) all_cells

omit [FloatOps F] in
/-- Slot 0 is its four quarters. -/
theorem slot_split (c : Dev nD) (f : Buf (Elt F) ((c : Thread nD τ).loc cc0_scratch0)) :
    ((((c : Thread nD τ).loc cc0_scratch0) ↦[(slotR.set : Finset S8x768x384.Idx)]{fullShare} f : sProp 𝕄)) = bigSepL own (fun y => qPts c y fullShare f) := by
  have h := bigSep_univ_eq_bigSepL (M := 𝕄) [(0 : Fin 4), 1, 2, 3] (by decide) (by decide) (fun q => (qPts c (0, q) fullShare f : sProp 𝕄))
  rw [← quarters_join c (Fin 4) (fun q => (0, q)) (fun q q' h => congrArg Prod.snd h) f] at h
  exact (congrArg (fun S : Finset S8x768x384.Idx => (((c : Thread nD τ).loc cc0_scratch0) ↦[S]{fullShare} f : sProp 𝕄)) slot_eq).trans h

/-! ## The holdings -/

/-- The invariants of all semaphores of all devices, and that each is in its round: known to everyone. -/
def records (K : Dev nD × CI → ℕ) : sProp 𝕄 :=
  iprop((bigSep Finset.univ fun ck : Dev nD × CI => cellInv ER (rd m ρ) (K ck) (kcell ck))
    ∗ bigSep Finset.univ fun ck : Dev nD × CI => reached ER (kcell ck) 0)

/-- What everyone knows may be used again and again. -/
instance records_persistent (K : Dev nD × CI → ℕ) : BI.Persistent (records m ρ K) := by unfold records; infer_instance

omit [FloatOps F] in
/-- The invariant of each semaphore is known. -/
theorem records_inv (K : Dev nD × CI → ℕ) (c : Dev nD) (k : CI) : records m ρ K ⊢ (cellInv ER (rd m ρ) (K (c, k)) (kcell (c, k)) : sProp 𝕄) := by
  unfold records; iintro ⟨H, -⟩
  have h : (bigSep Finset.univ fun ck : Dev nD × CI => (cellInv ER (rd m ρ) (K ck) (kcell ck) : sProp 𝕄)) ⊢ cellInv ER (rd m ρ) (K (c, k)) (kcell (c, k)) := bigSep_elim (Finset.mem_univ (c, k))
  iapply h; iexact H
omit [FloatOps F] in
/-- That each semaphore is in its round is known. -/
theorem records_reached (K : Dev nD × CI → ℕ) (c : Dev nD) (k : CI) : records m ρ K ⊢ (reached ER (kcell (c, k)) 0 : sProp 𝕄) := by
  unfold records; iintro ⟨-, H⟩
  have h : (bigSep Finset.univ fun ck : Dev nD × CI => (reached ER (kcell ck) 0 : sProp 𝕄)) ⊢ reached ER (kcell (c, k)) 0 := bigSep_elim (Finset.mem_univ (c, k))
  iapply h; iexact H

/-- What issuing the transfer that fills `y` across its link takes: the right to signal at either end, and the room there. -/
def passage (c : Dev nD) (y : Qt) : sProp 𝕄 :=
  iprop(dutyTok ER (sendCell c y) 0 0 ∗ dutyTok ER (recvCell (px (link y) c) y) 0 0 ∗ room (px (link y) c) y)

/-- The staged block of `A`, in hand. -/
def aPts (c : Dev nD) : sProp 𝕄 := ((c : Thread nD τ).loc cc0_stg0_0) ↦{fullShare} aStg m ρ c
/-- The staged `B`, in hand. -/
def bPts (c : Dev nD) : sProp 𝕄 := ((c : Thread nD τ).loc cc0_stg1_0) ↦{fullShare} bStg m ρ c
/-- The staged result, in hand, its first `l` half products done. -/
def oPts (c : Dev nD) (l : ℕ) : sProp 𝕄 :=
  iprop(∃ f : Buf (Elt F) ((c : Thread nD τ).loc cc0_stg2_0), ⌜doneOn m ρ c (cOrd.take l) f⌝ ∗ (((c : Thread nD τ).loc cc0_stg2_0) ↦{fullShare} f))

/-- What the rest of the kernel leaves alone: the barrier and the semaphores of slot 0, at zero. -/
def settled (c : Dev nD) : sProp 𝕄 :=
  iprop(semVal (barCell c) 0 ∗ bigSepL own (fun y => iprop(semVal (sendCell c y) 0 ∗ semVal (recvCell c y) 0)))

/-- After `j` transfers issued, `k` arrivals awaited, `l` products stored and `w` departures awaited. -/
def St (K : Dev nD × CI → ℕ) (c : Dev nD) (j k l w : ℕ) : sProp 𝕄 :=
  iprop(records m ρ K ∗ levAts L lv ∗ (∃ W, owes (c : Thread nD τ) (owed c (sOrd.drop j)) W)
    ∗ bigSepL (sOrd.drop j) (passage c)
    ∗ bigSepL (ready j k) (lent m ρ c)
    ∗ bigSepL ((sOrd.take j).drop w) (fun y => cred (tallyAt (sendCell c y) () N))
    ∗ bigSepL (sOrd.drop w) (fun y => atPos ER (sendCell c y) 0 ∅ 0)
    ∗ bigSepL (sOrd.take w) (fun y => iprop(semVal (sendCell c y) 0 ∗ lent m ρ c y))
    ∗ bigSepL (rOrd.drop k) (fun y => iprop(atPos ER (recvCell c y) 0 ∅ 0 ∗ cred (tallyAt (recvCell c y) () N)))
    ∗ bigSepL (rOrd.take k) (fun y => semVal (recvCell c y) 0)
    ∗ bigSepL (held k) (kept m ρ c)
    ∗ aPts m ρ c ∗ bPts m ρ c ∗ oPts m ρ c l ∗ settled c)

end Cert.KernelIdealProof

end
-- ==== Proof.KernelIdeal.Steps.lean ====
/-
  One operation of the kernel at a time: what issuing a transfer, waiting for an arrival or a departure, and each load and
  store of a product do to a device's holdings.
-/
module

public import proofs.«01_k».proof.Proof.KernelIdeal.State

@[expose] public section

noncomputable section

namespace Cert.KernelIdealProof

open Cert.KernelIdeal Cert.KernelIdeal.Gen Cert.Plan Cert.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The kernel's loops have no variants: it has no loops. -/
abbrev 𝒱₀ : Variants := Variants.none

/-- What a device's program needs. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable {m ρ}

/-- Two quarters that a load of half `x` reads. -/
theorem half_open (c : Dev nD) (x : Fin 8 × Fin 2) (f : Buf (Elt F) ((gM : Memref sig .tc .vmem S8x768x384 .bf16).view.loc (c : Thread nD τ))) :
    (iprop(qPts c (lowQ x) fullShare.right f ∗ qPts c (highQ x) fullShare.right f) : sProp 𝕄)
      = ((gM : Memref sig .tc .vmem S8x768x384 .bf16).view.loc (c : Thread nD τ) ↦[(qM (lowQ x)).view.set ∪ (qM (highQ x)).view.set]{fullShare.right} f) :=
  have h := pointsTo_union (Ix := Unit) (Name := ℕ) (U := UU) (Lvl := ℕ) (ℓ := (gM : Memref sig .tc .vmem S8x768x384 .bf16).view.loc (c : Thread nD τ))
    (q := fullShare.right) (f := f) (I := qCells (lowQ x)) (J := qCells (highQ x)) (quarter_disj (low_ne_high x))
  h.2.antisymm h.1

/-- Loading a half reads only its two quarters. -/
theorem half_reads (x : Fin 8 × Fin 2) :
    (gM : Memref sig .tc .vmem S8x768x384 .bf16).view.setOn (hR x).toLoadRect.set ⊆ (qM (lowQ x)).view.set ∪ (qM (highQ x)).view.set := fun i hi => by
  obtain ⟨i', hi', rfl⟩ := Finset.mem_map.mp hi
  exact half_sub x hi'

variable {K : Dev nD × CI → ℕ} {c : Dev nD} {j k l w : ℕ} {α : Type}
variable {Q : α → sProp (MT nD τ sig Unit (Elt F) ℕ UU ℕ)}

/-- Issuing the transfer that fills `y` across its link. -/
theorem step_send (y : Qt) (hd : sOrd.drop j = y :: sOrd.drop (j + 1) := by decide +kernel) (hr : (ready j k).Perm (y :: ready (j + 1) k) := by decide +kernel)
    (hc : ((sOrd.take (j + 1)).drop w).Perm (y :: (sOrd.take j).drop w) := by decide +kernel) (hy : y ∈ sOrd := by decide +kernel)
    {n : Dev nD → Dev nD} (hn : ∀ d, n d = px (link y) d := by decide +kernel) {ms md : Memref sig .tc .vmem S192x384 .bf16} (hms : ms = qM (src y) := by rfl) (hmd : md = qM y := by rfl)
    {ss sr : DmaSem sig} (hss : ss = sendS y := by rfl) (hsr : sr = recvS y := by rfl)
    {hsc : md.view.ref.isScScratch = false} {h1 : ms.view.WordExact} {h2 : md.view.WordExact}
    {h3 : DmaTarget.Typed .vmem (.dma sr) (.remote (Dev.tc (n c) : Thread nD τ) md (.dma ss) hsc)}
    {k' : PUnit → Prog (TpuEff nD τ sig (Elt F) Λ₀ .tc) α}
    (hk : St m ρ K c (j + 1) k l w ⊢ run c (k' ⟨⟩) Q) :
    St m ρ K c j k l w ⊢ run c (.op (.enqueueDma ms (.remote (Dev.tc (n c)) md (.dma ss) hsc) (.dma sr) h1 h2 h3) k') Q := by
  subst hms hmd hss hsr
  obtain rfl : n = fun d => px (link y) d := funext hn
  unfold St at hk ⊢
  rw [chain_take hc] at hk
  rw [hd, bigSepL_cons', chain_take hr]
  unfold passage room
  iintro ⟨#HR, #HL, ⟨%W, HO⟩, ⟨⟨Ht1, Ht2, %fd, Hd⟩, Hp⟩, ⟨Hq, Hr⟩, Hc, Hsp, Hsd, Hrp, Hrd, Hh, HA, HB, HOut, Hset⟩
  ihave #HI1 := records_inv m ρ K c (.inr (.inl y)) $$ HR
  ihave #HI2 := records_inv m ρ K (px (link y) c) (.inr (.inr y)) $$ HR
  ihave #Hr1 := records_reached m ρ K c (.inr (.inl y)) $$ HR
  ihave #Hr2 := records_reached m ρ K (px (link y) c) (.inr (.inr y)) $$ HR
  ihave Hq := (Entails.of_eq (show (lent m ρ c y : sProp 𝕄) = ((qM (src y)).view.loc (c : Thread nD τ) ↦[(qM (src y)).view.set]{lsh y} slots m ρ c) from rfl)) $$ Hq
  ihave Hd := (Entails.of_eq (show (qPts (px (link y) c) y fullShare fd : sProp 𝕄)
    = ((qM y).view.loc (px (link y) c : Thread nD τ) ↦[(qM y).view.set]{fullShare} fd) from rfl)) $$ Hd
  iapply (Rounds.wp_send_pointsTo 𝒱₀ ER (rd m ρ) (c : Thread nD τ) none (c' := (px (link y) c : Thread nD τ))
    (κ₁ := K (c, .inr (.inl y))) (κ₂ := K (px (link y) c, .inr (.inr y)))
    (src := qM (src y)) (dst := qM y) (sS := .dma (sendS y)) (sem := .dma (recvS y)) (q := lsh y) (fs := slots m ρ c) (fd := fd)
    (r₁ := 0) (r₂ := 0) (d₁ := 0) (d₂ := 0)
    (by rw [show ((c : Thread nD τ), SemLoc.dma (sendS y)) = sendCell c y from rfl, duties_send m ρ c hy]; exact Finset.mem_singleton_self _)
    (by rw [show ((px (link y) c : Thread nD τ), SemLoc.dma (recvS y)) = recvCell (px (link y) c) y from rfl, duties_recv m ρ _ hy]; exact Finset.mem_singleton_self _)
    () () N (credit_eq y) (amount_dma m ρ c _ 0) (amount_dma m ρ _ _ 0) (owed c (sOrd.drop (j + 1))) rfl
    (Entails.of_eq (payload_send m ρ c y 0).symm)
    ((Entails.of_eq (pointsTo_congr fun i hi => landing m ρ c y fd i hi)).trans (Entails.of_eq (payload_recv m ρ (px (link y) c) y 0).symm)))
    $$ [Hq Hd HO Ht1 Ht2]
  · isplitr; · iexact HI1
    isplitr; · iexact HI2
    isplitl [Hq]; · iexact Hq
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply hk
  isplitr; · iexact HR
  isplitr; · iexact HL
  isplitl [HO]; · iexists W; iexact HO
  isplitl [Hp]; · iexact Hp
  isplitl [Hr]; · iexact Hr
  isplitl [Hcr Hc]
  · isplitl [Hcr] <;> iassumption
  iframe

/-- Waiting for the arrival that fills `y`. -/
theorem step_recv (y : Qt) (hd : rOrd.drop k = y :: rOrd.drop (k + 1) := by decide +kernel) (ht : (rOrd.take (k + 1)).Perm (y :: rOrd.take k) := by decide +kernel)
    (hh : (held (k + 1)).Perm (y :: held k) := by decide +kernel) (hr : (ready j (k + 1)).Perm (outs y ++ ready j k) := by decide +kernel) (hy : y ∈ sOrd := by decide +kernel)
    (hlv : ∀ z ∈ sOrd.drop j, height y < height z := by decide +kernel)
    {sr : DmaSem sig} (hsr : sr = recvS y := by rfl) {s1 s2 : Memref sig .tc .vmem S192x384 .bf16} (hN : s2.view.dmaCredit = N := by rfl)
    {h1 : s1.view.WordExact} {h2 : s2.view.WordExact}
    {k' : PUnit → Prog (TpuEff nD τ sig (Elt F) Λ₀ .tc) α}
    (hk : St m ρ K c j (k + 1) l w ⊢ run c (k' ⟨⟩) Q) :
    St m ρ K c j k l w ⊢ run c (.op (.waitDma2 sr s1 s2 h1 h2) k') Q := by
  subst hsr
  unfold St at hk ⊢
  rw [chain_take ht, chain_take hh, chain_perm hr, bigSepL_append] at hk
  rw [hd, bigSepL_cons']
  iintro ⟨#HR, #HL, ⟨%W, HO⟩, Hp, Hr, Hc, Hsp, Hsd, ⟨⟨Hat, Hcr⟩, Hrp⟩, Hrd, Hh, HA, HB, HOut, Hset⟩
  ihave #HI := records_inv m ρ K c (.inr (.inr y)) $$ HR
  ihave #HM := may_wait_owed c (.dma (recvS y)) (sOrd.drop j) (fun z hz => by
    rw [show ((c : Thread nD τ), SemLoc.dma (recvS y)) = recvCell c y from rfl, lv_recv]; exact hlv z hz) $$ HL
  iapply (Rounds.wp_wait_rest_token 𝒱₀ ER (rd m ρ) (c : Thread nD τ) none (κ := K (c, .inr (.inr y)))
    (wpE_waitDma2_eq 𝒱₀ (c : Thread nD τ) none Set.univ) (Set.mem_univ _) () (O := owed c (sOrd.drop j)) (W := W) (R := 0) (m := 0) (T := ∅)
    (show 0 + s2.view.dmaCredit = (rd m ρ).expect (recvCell c y) 0 by rw [expect_recv m ρ c hy, hN, Nat.zero_add])) $$ [Hat Hcr HO]
  · isplitr; · iexact HI
    isplitl [Hcr]
    · rw [hN]; iexact Hcr
    isplitl [HO]; · iexact HO
    isplitr; · iexact HM
    iexact Hat
  iintro ⟨HO, Hat, -, Hpay⟩
  ihave Hq := (Entails.of_eq (rest_recv m ρ c hy)) $$ Hpay
  ihave ⟨Hkept, Hlent⟩ := (Entails.of_eq (quarter_open m ρ c y)) $$ Hq
  imod (Rounds.cell_close ER (rd m ρ) (Set.mem_univ (K (c, .inr (.inr y)))) (fun h => h) (R := 0 + 1) (duties_later m ρ _)) $$ [Hat] with Hz
  · isplitr; · iexact HI
    iexact Hat
  iapply hk
  isplitr; · iexact HR
  isplitr; · iexact HL
  isplitl [HO]; · iexists _; iexact HO
  isplitl [Hp]; · iexact Hp
  isplitl [Hlent Hr]
  · isplitl [Hlent] <;> iassumption
  isplitl [Hc]; · iexact Hc
  isplitl [Hsp]; · iexact Hsp
  isplitl [Hsd]; · iexact Hsd
  isplitl [Hrp]; · iexact Hrp
  isplitl [Hz Hrd]
  · isplitl [Hz]; · iexact Hz
    iexact Hrd
  isplitl [Hkept Hh]
  · isplitl [Hkept] <;> iassumption
  iframe

/-- Waiting for the departure of the transfer that fills `y`: what was lent comes back. -/
theorem step_depart (y : Qt) (hd : sOrd.drop w = y :: sOrd.drop (w + 1) := by decide +kernel) (ht : (sOrd.take (w + 1)).Perm (y :: sOrd.take w) := by decide +kernel)
    (hc : ((sOrd.take j).drop w).Perm (y :: (sOrd.take j).drop (w + 1)) := by decide +kernel) (hy : y ∈ sOrd := by decide +kernel)
    {ss : DmaSem sig} (hss : ss = sendS y := by rfl) {s1 s2 : Memref sig .tc .vmem S192x384 .bf16} (hN : s2.view.dmaCredit = N := by rfl)
    {h1 : s1.view.WordExact} {h2 : s2.view.WordExact}
    {k' : PUnit → Prog (TpuEff nD τ sig (Elt F) Λ₀ .tc) α}
    (hk : St m ρ K c j k l (w + 1) ⊢ run c (k' ⟨⟩) Q) :
    St m ρ K c j k l w ⊢ run c (.op (.waitDma2 ss s1 s2 h1 h2) k') Q := by
  subst hss
  unfold St at hk ⊢
  rw [chain_take ht] at hk
  rw [hd, bigSepL_cons', chain_take hc]
  iintro ⟨#HR, #HL, ⟨%W, HO⟩, Hp, Hr, ⟨Hcr, Hc⟩, ⟨Hat, Hsp⟩, Hsd, Hrest⟩
  ihave #HI := records_inv m ρ K c (.inr (.inl y)) $$ HR
  ihave #HM := may_wait_owed c (.dma (sendS y)) (sOrd.drop j) (fun z hz => by
    rw [show ((c : Thread nD τ), SemLoc.dma (sendS y)) = sendCell c y from rfl, lv_send]; exact lt_trans Nat.one_pos (height_gt_one z)) $$ HL
  iapply (Rounds.wp_wait_rest_token 𝒱₀ ER (rd m ρ) (c : Thread nD τ) none (κ := K (c, .inr (.inl y)))
    (wpE_waitDma2_eq 𝒱₀ (c : Thread nD τ) none Set.univ) (Set.mem_univ _) () (O := owed c (sOrd.drop j)) (W := W) (R := 0) (m := 0) (T := ∅)
    (show 0 + s2.view.dmaCredit = (rd m ρ).expect (sendCell c y) 0 by rw [expect_send m ρ c hy, hN, Nat.zero_add])) $$ [Hat Hcr HO]
  · isplitr; · iexact HI
    isplitl [Hcr]
    · rw [hN]; iexact Hcr
    isplitl [HO]; · iexact HO
    isplitr; · iexact HM
    iexact Hat
  iintro ⟨HO, Hat, -, Hpay⟩
  ihave Hlent := (Entails.of_eq (rest_send m ρ c hy)) $$ Hpay
  imod (Rounds.cell_close ER (rd m ρ) (Set.mem_univ (K (c, .inr (.inl y)))) (fun h => h) (R := 0 + 1) (duties_later m ρ _)) $$ [Hat] with Hz
  · isplitr; · iexact HI
    iexact Hat
  iapply hk
  isplitr; · iexact HR
  isplitr; · iexact HL
  isplitl [HO]; · iexists _; iexact HO
  isplitl [Hp]; · iexact Hp
  isplitl [Hr]; · iexact Hr
  isplitl [Hc]; · iexact Hc
  isplitl [Hsp]; · iexact Hsp
  isplitl [Hz Hlent Hsd]
  · isplitl [Hz Hlent]
    · isplitl [Hz]; · iexact Hz
      iexact Hlent
    iexact Hsd
  iexact Hrest

/-- Loading half `x` of the slots, once both its quarters have arrived. -/
theorem step_load (x : Fin 8 × Fin 2) (h1 : lowQ x ∈ held k := by decide +kernel) (h2 : highQ x ∈ (held k).erase (lowQ x) := by decide +kernel)
    {hl : (gM : Memref sig .tc .vmem S8x768x384 .bf16).view.LoadsAt (hR x).toLoadRect}
    {k' : ((hR x).toLoadRect.shape.Idx → Elt F .bf16) → Prog (TpuEff nD τ sig (Elt F) Λ₀ .tc) α}
    (hk : St m ρ K c j k l w ⊢ run c (k' (aHalf m ρ (px x.1 c) x.2)) Q) :
    St m ρ K c j k l w ⊢ run c (.op (.load gM (hR x).toLoadRect hl) k') Q := by
  unfold St at hk ⊢
  rw [chain_take (List.perm_cons_erase h1), chain_take (List.perm_cons_erase h2)] at hk ⊢
  unfold kept at hk ⊢
  iintro ⟨#HR, #HL, HO, Hp, Hr, Hc, Hsp, Hsd, Hrp, Hrd, ⟨⟨Hq1, Hi1⟩, ⟨Hq2, Hi2⟩, Hh⟩, Hrest⟩
  ihave Hq := (Entails.of_eq (half_open c x (slots m ρ c))) $$ [Hq1 Hq2]
  · isplitl [Hq1] <;> iassumption
  iapply (wp_load 𝒱₀ (c : Thread nD τ) none Set.univ (m := gM) (r := (hR x).toLoadRect) (half_reads x)) $$ Hq
  iintro Hq
  rw [load_half m ρ c x]
  ihave ⟨Hq1, Hq2⟩ := (Entails.of_eq (half_open c x (slots m ρ c)).symm) $$ Hq
  iapply hk
  isplitr; · iexact HR
  isplitr; · iexact HL
  isplitl [HO]; · iexact HO
  isplitl [Hp]; · iexact Hp
  isplitl [Hr]; · iexact Hr
  isplitl [Hc]; · iexact Hc
  isplitl [Hsp]; · iexact Hsp
  isplitl [Hsd]; · iexact Hsd
  isplitl [Hrp]; · iexact Hrp
  isplitl [Hrd]; · iexact Hrd
  isplitr [Hrest]
  · isplitl [Hq1 Hi1]
    · isplitl [Hq1] <;> iassumption
    isplitl [Hq2 Hi2]
    · isplitl [Hq2] <;> iassumption
    iexact Hh
  iexact Hrest

/-- Loading `B`. -/
theorem step_load_b {hl : (bM : Memref sig .tc .vmem S384x768 .bf16).view.LoadsAt bR.toLoadRect}
    {k' : (bR.toLoadRect.shape.Idx → Elt F .bf16) → Prog (TpuEff nD τ sig (Elt F) Λ₀ .tc) α}
    (hk : St m ρ K c j k l w ⊢ run c (k' (bStg m ρ c)) Q) :
    St m ρ K c j k l w ⊢ run c (.op (.load bM bR.toLoadRect hl) k') Q := by
  unfold St at hk ⊢
  iintro ⟨#HR, #HL, HO, Hp, Hr, Hc, Hsp, Hsd, Hrp, Hrd, Hh, HA, HB, HOut, Hset⟩
  unfold bPts at hk ⊢
  iapply (wp_load 𝒱₀ (c : Thread nD τ) none Set.univ (m := bM) (r := bR.toLoadRect) (S := Finset.univ) (Finset.subset_univ _)) $$ HB
  iintro HB
  rw [load_b (bStg m ρ c)]
  iapply hk
  isplitr; · iexact HR
  isplitr; · iexact HL
  iframe

/-- Loading the rows of the result that are about to be stored: what is read is not used. -/
theorem step_load_out (x : Fin 8 × Fin 2) {hl : (oM : Memref sig .tc .vmem S6144x768 .bf16).view.LoadsAt (oR c x).toLoadRect}
    {k' : ((oR c x).toLoadRect.shape.Idx → Elt F .bf16) → Prog (TpuEff nD τ sig (Elt F) Λ₀ .tc) α}
    (hk : ∀ v, St m ρ K c j k l w ⊢ run c (k' v) Q) :
    St m ρ K c j k l w ⊢ run c (.op (.load oM (oR c x).toLoadRect hl) k') Q := by
  unfold St at hk ⊢
  iintro ⟨#HR, #HL, HO, Hp, Hr, Hc, Hsp, Hsd, Hrp, Hrd, Hh, HA, HB, HOut, Hset⟩
  unfold oPts at hk ⊢
  icases HOut with ⟨%f, %hf, HOut⟩
  iapply (wp_load 𝒱₀ (c : Thread nD τ) none Set.univ (m := oM) (r := (oR c x).toLoadRect) (S := Finset.univ) (Finset.subset_univ _)) $$ HOut
  iintro HOut
  iapply (hk _)
  isplitr; · iexact HR
  isplitr; · iexact HL
  isplitl [HO]; · iexact HO
  isplitl [Hp]; · iexact Hp
  isplitl [Hr]; · iexact Hr
  isplitl [Hc]; · iexact Hc
  isplitl [Hsp]; · iexact Hsp
  isplitl [Hsd]; · iexact Hsd
  isplitl [Hrp]; · iexact Hrp
  isplitl [Hrd]; · iexact Hrd
  isplitl [Hh]; · iexact Hh
  isplitl [HA]; · iexact HA
  isplitl [HB]; · iexact HB
  isplitl [HOut]
  · iexists f; isplitr; · ipureintro; exact hf
    iexact HOut
  iexact Hset

/-- Storing the product of half `x`. -/
theorem step_store (x : Fin 8 × Fin 2) (hl : cOrd.take (l + 1) = cOrd.take l ++ [x] := by decide +kernel)
    {v : (oR c x).shape.Idx → Elt F .bf16} (hv : v = part m ρ c (px x.1 c) x.2 := by rfl)
    {hx : ((oM : Memref sig .tc .vmem S6144x768 .bf16).access (oR c x)).Stores Finset.univ} {hm : (Finset.univ : Finset (oR c x).shape.Idx) = Finset.univ ∨ ∀ a, (oR c x).stride a = 1}
    {k' : PUnit → Prog (TpuEff nD τ sig (Elt F) Λ₀ .tc) α}
    (hk : St m ρ K c j k (l + 1) w ⊢ run c (k' ⟨⟩) Q) :
    St m ρ K c j k l w ⊢ run c (.op (.store oM (oR c x) v Finset.univ hx hm) k') Q := by
  subst hv
  unfold St at hk ⊢
  iintro ⟨#HR, #HL, HO, Hp, Hr, Hc, Hsp, Hsd, Hrp, Hrd, Hh, HA, HB, HOut, Hset⟩
  unfold oPts at hk ⊢
  icases HOut with ⟨%f, %hf, HOut⟩
  iapply (wp_store 𝒱₀ (c : Thread nD τ) none Set.univ (m := oM) (r := oR c x) (Mk := Finset.univ) (S := Finset.univ) (Finset.subset_univ _)) $$ HOut
  iintro HOut
  iapply hk
  isplitr; · iexact HR
  isplitr; · iexact HL
  isplitl [HO]; · iexact HO
  isplitl [Hp]; · iexact Hp
  isplitl [Hr]; · iexact Hr
  isplitl [Hc]; · iexact Hc
  isplitl [Hsp]; · iexact Hsp
  isplitl [Hsd]; · iexact Hsd
  isplitl [Hrp]; · iexact Hrp
  isplitl [Hrd]; · iexact Hrd
  isplitl [Hh]; · iexact Hh
  isplitl [HA]; · iexact HA
  isplitl [HB]; · iexact HB
  isplitl [HOut]
  · iexists _; isplitr
    · ipureintro; rw [hl]; exact store_part m ρ c x (cOrd.take l) f hf
    iexact HOut
  iexact Hset

end Cert.KernelIdealProof

end
-- ==== Proof.KernelIdeal.Body.lean ====
/-
  The kernel in parts, as it is printed: each part leads from one state of a device's holdings to the next. The steps are
  those of the tables, in their order.
-/
module

public import proofs.«01_k».proof.Proof.KernelIdeal.Steps

@[expose] public section

noncomputable section

namespace Cert.KernelIdealProof

open Cert.KernelIdeal Cert.KernelIdeal.Gen Cert.Plan Cert.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable {m ρ}
variable {K : Dev nD × CI → ℕ} {c : Dev nD}
variable {hA : (aM : Memref sig .tc .vmem S768x384 .bf16).IsWhole} {hB : (bM : Memref sig .tc .vmem S384x768 .bf16).IsWhole}
  {hO : (oM : Memref sig .tc .vmem S6144x768 .bf16).IsWhole} {hG : (gM : Memref sig .tc .vmem S8x768x384 .bf16).IsWhole}

/-- A program that is done needs only what is promised. -/
theorem stop {α : Type} {P : sProp 𝕄} {a : α} {Q : α → sProp 𝕄} (h : P ⊢ Q a) : P ⊢ run c (pure a) Q := by
  rw [show run c (pure a) Q = iprop(|={Set.univ}=> Q a) from rfl]
  iintro H; imodintro; iapply h; iexact H

/-- A true fact may be added to what is held. -/
theorem and_pure {P : sProp 𝕄} {φ : Prop} (h : φ) : P ⊢ iprop(⌜φ⌝ ∗ P) := by
  iintro H; isplitr; · ipureintro; exact h
  iexact H

/-- Part 2: issues (1, 0), (3, 0), (4, 0). -/
theorem part2 (v : BitVec 32) :
    St m ρ K c 0 0 0 0 ⊢ run c (k0_part2 aM hA bM hB oM hO gM hG cc0_scratch1 cc0_scratch2 c v) fun _ => St m ρ K c 3 0 0 0 := by
  rw [k0_part2_eq_skeleton]; unfold k0_part2_skel
  simp only [Prog.lift, Prog.bind_op, Prog.bind_ret, Prog.pure_eq_ret]
  apply step_send (1, 0)
  apply step_send (3, 0)
  apply step_send (4, 0)
  exact stop .rfl

/-- Part 3: issues (1, 1), (3, 1). -/
theorem part3 (v : BitVec 32) :
    St m ρ K c 3 0 0 0 ⊢ run c (k0_part3 aM hA bM hB oM hO gM hG cc0_scratch1 cc0_scratch2 c v) fun _ => St m ρ K c 5 0 0 0 := by
  rw [k0_part3_eq_skeleton]; unfold k0_part3_skel
  simp only [Prog.lift, Prog.bind_op, Prog.bind_ret, Prog.pure_eq_ret]
  apply step_send (1, 1)
  apply step_send (3, 1)
  exact stop .rfl

/-- Part 4: issues (4, 1), (1, 2). -/
theorem part4 (v u : BitVec 32) :
    St m ρ K c 5 0 0 0 ⊢ run c (k0_part4 aM hA bM hB oM hO gM hG cc0_scratch1 cc0_scratch2 c v u) fun _ => St m ρ K c 7 0 0 0 := by
  rw [k0_part4_eq_skeleton]; unfold k0_part4_skel
  simp only [Prog.lift, Prog.bind_op, Prog.bind_ret, Prog.pure_eq_ret]
  apply step_send (4, 1)
  apply step_send (1, 2)
  exact stop .rfl

/-- Part 5: issues (3, 2), (4, 2), (1, 3). -/
theorem part5 (v : BitVec 32) :
    St m ρ K c 7 0 0 0 ⊢ run c (k0_part5 aM hA bM hB oM hO gM hG cc0_scratch1 cc0_scratch2 c v) fun _ => St m ρ K c 10 0 0 0 := by
  rw [k0_part5_eq_skeleton]; unfold k0_part5_skel
  simp only [Prog.lift, Prog.bind_op, Prog.bind_ret, Prog.pure_eq_ret]
  apply step_send (3, 2)
  apply step_send (4, 2)
  apply step_send (1, 3)
  exact stop .rfl

/-- Part 6: issues (3, 3), (4, 3); loads `B`; loads half (0, 0). -/
theorem part6 (v u : BitVec 32) :
    St m ρ K c 10 0 0 0 ⊢ run c (k0_part6 aM hA bM hB oM hO gM hG cc0_scratch1 cc0_scratch2 c v u) fun r => iprop(⌜r.1 = k0_pay2 (bStg m ρ c) ∧ r.2.2.1 = part m ρ c (px 0 c) 0⌝ ∗ St m ρ K c 12 0 0 0) := by
  rw [k0_part6_eq_skeleton]; unfold k0_part6_skel
  simp only [Prog.lift, Prog.bind_op, Prog.bind_ret, Prog.pure_eq_ret]
  apply step_send (3, 3)
  apply step_send (4, 3)
  apply step_load_b
  apply step_load (0, 0)
  exact stop (and_pure ⟨rfl, rfl⟩)

/-- Part 7: awaits the arrival of (1, 0); stores the products of halves (0, 0), (0, 1). -/
theorem part7 (v u t : BitVec 32) :
    St m ρ K c 12 0 0 0 ⊢ run c (k0_part7 aM hA bM hB oM hO gM hG cc0_scratch1 cc0_scratch2 c v (k0_pay2 (bStg m ρ c)) u (part m ρ c (px 0 c) 0) t) fun _ => St m ρ K c 12 1 2 0 := by
  rw [k0_part7_eq_skeleton]; unfold k0_part7_skel
  simp only [Prog.lift, Prog.bind_op, Prog.bind_ret, Prog.pure_eq_ret]
  apply step_load_out (0, 0)
  intro _
  apply step_store (0, 0)
  apply step_load (0, 1)
  apply step_load_out (0, 1)
  intro _
  apply step_store (0, 1)
  apply step_recv (1, 0)
  exact stop .rfl

/-- Part 8: issues (5, 0), (2, 0); awaits the arrival of (3, 0). -/
theorem part8 (v : BitVec 32) :
    St m ρ K c 12 1 2 0 ⊢ run c (k0_part8 aM hA bM hB oM hO gM hG cc0_scratch1 cc0_scratch2 c v) fun _ => St m ρ K c 14 2 2 0 := by
  rw [k0_part8_eq_skeleton]; unfold k0_part8_skel
  simp only [Prog.lift, Prog.bind_op, Prog.bind_ret, Prog.pure_eq_ret]
  apply step_send (5, 0)
  apply step_recv (3, 0)
  apply step_send (2, 0)
  exact stop .rfl

/-- Part 9: issues (7, 0); awaits the arrival of (4, 0). -/
theorem part9 (v : BitVec 32) :
    St m ρ K c 14 2 2 0 ⊢ run c (k0_part9 aM hA bM hB oM hO gM hG cc0_scratch1 cc0_scratch2 c v) fun _ => St m ρ K c 15 3 2 0 := by
  rw [k0_part9_eq_skeleton]; unfold k0_part9_skel
  simp only [Prog.lift, Prog.bind_op, Prog.bind_ret, Prog.pure_eq_ret]
  apply step_recv (4, 0)
  apply step_send (7, 0)
  exact stop .rfl

/-- Part 10: issues (5, 1); awaits the arrival of (1, 1), (3, 1). -/
theorem part10 (v : BitVec 32) :
    St m ρ K c 15 3 2 0 ⊢ run c (k0_part10 aM hA bM hB oM hO gM hG cc0_scratch1 cc0_scratch2 c v) fun _ => St m ρ K c 16 5 2 0 := by
  rw [k0_part10_eq_skeleton]; unfold k0_part10_skel
  simp only [Prog.lift, Prog.bind_op, Prog.bind_ret, Prog.pure_eq_ret]
  apply step_recv (1, 1)
  apply step_send (5, 1)
  apply step_recv (3, 1)
  exact stop .rfl

/-- Part 11: issues (2, 1); awaits the arrival of (4, 1). -/
theorem part11 (v u : BitVec 32) :
    St m ρ K c 16 5 2 0 ⊢ run c (k0_part11 aM hA bM hB oM hO gM hG cc0_scratch1 cc0_scratch2 c v u) fun _ => St m ρ K c 17 6 2 0 := by
  rw [k0_part11_eq_skeleton]; unfold k0_part11_skel
  simp only [Prog.lift, Prog.bind_op, Prog.bind_ret, Prog.pure_eq_ret]
  apply step_send (2, 1)
  apply step_recv (4, 1)
  exact stop .rfl

/-- Part 12: issues (7, 1); awaits the arrival of (1, 2); stores the products of halves (1, 0), (3, 0). -/
theorem part12 (v : BitVec 32) :
    St m ρ K c 17 6 2 0 ⊢ run c (k0_part12 aM hA bM hB oM hO gM hG cc0_scratch1 cc0_scratch2 c v (k0_pay2 (bStg m ρ c))) fun _ => St m ρ K c 18 7 4 0 := by
  rw [k0_part12_eq_skeleton]; unfold k0_part12_skel
  simp only [Prog.lift, Prog.bind_op, Prog.bind_ret, Prog.pure_eq_ret]
  apply step_send (7, 1)
  apply step_load (1, 0)
  apply step_load_out (1, 0)
  intro _
  apply step_store (1, 0)
  apply step_load (3, 0)
  apply step_load_out (3, 0)
  intro _
  apply step_store (3, 0)
  apply step_recv (1, 2)
  exact stop .rfl

/-- Part 13: issues (5, 2); awaits the arrival of (3, 2). -/
theorem part13 (v u : BitVec 32) :
    St m ρ K c 18 7 4 0 ⊢ run c (k0_part13 aM hA bM hB oM hO gM hG cc0_scratch1 cc0_scratch2 c v u) fun _ => St m ρ K c 19 8 4 0 := by
  rw [k0_part13_eq_skeleton]; unfold k0_part13_skel
  simp only [Prog.lift, Prog.bind_op, Prog.bind_ret, Prog.pure_eq_ret]
  apply step_send (5, 2)
  apply step_recv (3, 2)
  exact stop .rfl

/-- Part 14: issues (2, 2), (7, 2); awaits the arrival of (4, 2). -/
theorem part14 (v : BitVec 32) :
    St m ρ K c 19 8 4 0 ⊢ run c (k0_part14 aM hA bM hB oM hO gM hG cc0_scratch1 cc0_scratch2 c v) fun _ => St m ρ K c 21 9 4 0 := by
  rw [k0_part14_eq_skeleton]; unfold k0_part14_skel
  simp only [Prog.lift, Prog.bind_op, Prog.bind_ret, Prog.pure_eq_ret]
  apply step_send (2, 2)
  apply step_recv (4, 2)
  apply step_send (7, 2)
  exact stop .rfl

/-- Part 15: issues (5, 3); awaits the arrival of (1, 3); stores the product of half (4, 0). -/
theorem part15 (v u : BitVec 32) :
    St m ρ K c 21 9 4 0 ⊢ run c (k0_part15 aM hA bM hB oM hO gM hG cc0_scratch1 cc0_scratch2 c v (k0_pay2 (bStg m ρ c)) u) fun _ => St m ρ K c 22 10 5 0 := by
  rw [k0_part15_eq_skeleton]; unfold k0_part15_skel
  simp only [Prog.lift, Prog.bind_op, Prog.bind_ret, Prog.pure_eq_ret]
  apply step_load (4, 0)
  apply step_load_out (4, 0)
  intro _
  apply step_store (4, 0)
  apply step_recv (1, 3)
  apply step_send (5, 3)
  exact stop .rfl

/-- Part 16: issues (2, 3); awaits the arrival of (3, 3). -/
theorem part16 (v : BitVec 32) :
    St m ρ K c 22 10 5 0 ⊢ run c (k0_part16 aM hA bM hB oM hO gM hG cc0_scratch1 cc0_scratch2 c v) fun _ => St m ρ K c 23 11 5 0 := by
  rw [k0_part16_eq_skeleton]; unfold k0_part16_skel
  simp only [Prog.lift, Prog.bind_op, Prog.bind_ret, Prog.pure_eq_ret]
  apply step_recv (3, 3)
  apply step_send (2, 3)
  exact stop .rfl

/-- Part 17: issues (7, 3); awaits the arrival of (4, 3); stores the product of half (1, 1). -/
theorem part17 (v : BitVec 32) :
    St m ρ K c 23 11 5 0 ⊢ run c (k0_part17 aM hA bM hB oM hO gM hG cc0_scratch1 cc0_scratch2 c v (k0_pay2 (bStg m ρ c))) fun _ => St m ρ K c 24 12 6 0 := by
  rw [k0_part17_eq_skeleton]; unfold k0_part17_skel
  simp only [Prog.lift, Prog.bind_op, Prog.bind_ret, Prog.pure_eq_ret]
  apply step_recv (4, 3)
  apply step_send (7, 3)
  apply step_load (1, 1)
  apply step_load_out (1, 1)
  intro _
  apply step_store (1, 1)
  exact stop .rfl

/-- Part 18: issues (6, 0); awaits the arrival of (7, 0); stores the product of half (3, 1). -/
theorem part18 (v : BitVec 32) :
    St m ρ K c 24 12 6 0 ⊢ run c (k0_part18 aM hA bM hB oM hO gM hG cc0_scratch1 cc0_scratch2 c v (k0_pay2 (bStg m ρ c))) fun _ => St m ρ K c 25 13 7 0 := by
  rw [k0_part18_eq_skeleton]; unfold k0_part18_skel
  simp only [Prog.lift, Prog.bind_op, Prog.bind_ret, Prog.pure_eq_ret]
  apply step_recv (7, 0)
  apply step_send (6, 0)
  apply step_load (3, 1)
  apply step_load_out (3, 1)
  intro _
  apply step_store (3, 1)
  exact stop .rfl

/-- Part 19: issues (6, 1); awaits the arrival of (7, 1); stores the product of half (4, 1). -/
theorem part19 (v u : BitVec 32) :
    St m ρ K c 25 13 7 0 ⊢ run c (k0_part19 aM hA bM hB oM hO gM hG cc0_scratch1 cc0_scratch2 c v (k0_pay2 (bStg m ρ c)) u) fun _ => St m ρ K c 26 14 8 0 := by
  rw [k0_part19_eq_skeleton]; unfold k0_part19_skel
  simp only [Prog.lift, Prog.bind_op, Prog.bind_ret, Prog.pure_eq_ret]
  apply step_recv (7, 1)
  apply step_send (6, 1)
  apply step_load (4, 1)
  apply step_load_out (4, 1)
  intro _
  apply step_store (4, 1)
  exact stop .rfl

/-- Part 20: awaits the arrival of (5, 2); stores the product of half (7, 0). -/
theorem part20 (v u : BitVec 32) :
    St m ρ K c 26 14 8 0 ⊢ run c (k0_part20 aM hA bM hB oM hO gM hG cc0_scratch1 cc0_scratch2 c v (k0_pay2 (bStg m ρ c)) u) fun _ => St m ρ K c 26 15 9 0 := by
  rw [k0_part20_eq_skeleton]; unfold k0_part20_skel
  simp only [Prog.lift, Prog.bind_op, Prog.bind_ret, Prog.pure_eq_ret]
  apply step_load (7, 0)
  apply step_load_out (7, 0)
  intro _
  apply step_store (7, 0)
  apply step_recv (5, 2)
  exact stop .rfl

/-- Part 21: issues (6, 2); awaits the arrival of (2, 0), (2, 1); loads half (2, 0). -/
theorem part21 (v : BitVec 32) :
    St m ρ K c 26 15 9 0 ⊢ run c (k0_part21 aM hA bM hB oM hO gM hG cc0_scratch1 cc0_scratch2 c v (k0_pay2 (bStg m ρ c))) fun r => iprop(⌜r = part m ρ c (px 2 c) 0⌝ ∗ St m ρ K c 27 17 9 0) := by
  rw [k0_part21_eq_skeleton]; unfold k0_part21_skel
  simp only [Prog.lift, Prog.bind_op, Prog.bind_ret, Prog.pure_eq_ret]
  apply step_send (6, 2)
  apply step_recv (2, 0)
  apply step_recv (2, 1)
  apply step_load (2, 0)
  apply step_load_out (2, 0)
  intro _
  exact stop (and_pure rfl)

/-- Part 22: issues (6, 3); awaits the arrival of (5, 3); stores the product of half (2, 0). -/
theorem part22 (v : BitVec 32) :
    St m ρ K c 27 17 9 0 ⊢ run c (k0_part22 aM hA bM hB oM hO gM hG cc0_scratch1 cc0_scratch2 c v (part m ρ c (px 2 c) 0)) fun _ => St m ρ K c 28 18 10 0 := by
  rw [k0_part22_eq_skeleton]; unfold k0_part22_skel
  simp only [Prog.lift, Prog.bind_op, Prog.bind_ret, Prog.pure_eq_ret]
  apply step_store (2, 0)
  apply step_recv (5, 3)
  apply step_send (6, 3)
  exact stop .rfl

/-- Part 23: awaits the arrival of (5, 0), (5, 1); stores the product of half (5, 0). -/
theorem part23 (v : BitVec 32) :
    St m ρ K c 28 18 10 0 ⊢ run c (k0_part23 aM hA bM hB oM hO gM hG cc0_scratch1 cc0_scratch2 c v (k0_pay2 (bStg m ρ c))) fun _ => St m ρ K c 28 20 11 0 := by
  rw [k0_part23_eq_skeleton]; unfold k0_part23_skel
  simp only [Prog.lift, Prog.bind_op, Prog.bind_ret, Prog.pure_eq_ret]
  apply step_recv (5, 0)
  apply step_recv (5, 1)
  apply step_load (5, 0)
  apply step_load_out (5, 0)
  intro _
  apply step_store (5, 0)
  exact stop .rfl

/-- Part 24: awaits the arrival of (7, 2), (7, 3); stores the product of half (7, 1). -/
theorem part24 (v : BitVec 32) :
    St m ρ K c 28 20 11 0 ⊢ run c (k0_part24 aM hA bM hB oM hO gM hG cc0_scratch1 cc0_scratch2 c v (k0_pay2 (bStg m ρ c))) fun _ => St m ρ K c 28 22 12 0 := by
  rw [k0_part24_eq_skeleton]; unfold k0_part24_skel
  simp only [Prog.lift, Prog.bind_op, Prog.bind_ret, Prog.pure_eq_ret]
  apply step_recv (7, 2)
  apply step_recv (7, 3)
  apply step_load (7, 1)
  apply step_load_out (7, 1)
  intro _
  apply step_store (7, 1)
  exact stop .rfl

/-- Part 25: awaits the arrival of (2, 2), (2, 3); loads half (5, 1); stores the product of half (2, 1). -/
theorem part25 (v : BitVec 32) :
    St m ρ K c 28 22 12 0 ⊢ run c (k0_part25 aM hA bM hB oM hO gM hG cc0_scratch1 cc0_scratch2 c v (k0_pay2 (bStg m ρ c))) fun r => iprop(⌜r.1 = part m ρ c (px 5 c) 1⌝ ∗ St m ρ K c 28 24 13 0) := by
  rw [k0_part25_eq_skeleton]; unfold k0_part25_skel
  simp only [Prog.lift, Prog.bind_op, Prog.bind_ret, Prog.pure_eq_ret]
  apply step_recv (2, 2)
  apply step_recv (2, 3)
  apply step_load (2, 1)
  apply step_load_out (2, 1)
  intro _
  apply step_store (2, 1)
  apply step_load (5, 1)
  exact stop (and_pure rfl)

/-- Part 26: awaits the arrival of (6, 0), (6, 1); loads half (6, 0); stores the product of half (5, 1). -/
theorem part26 (v u t : BitVec 32) :
    St m ρ K c 28 24 13 0 ⊢ run c (k0_part26 aM hA bM hB oM hO gM hG cc0_scratch1 cc0_scratch2 c v (k0_pay2 (bStg m ρ c)) (part m ρ c (px 5 c) 1) u t) fun r => iprop(⌜r.1 = part m ρ c (px 6 c) 0⌝ ∗ St m ρ K c 28 26 14 0) := by
  rw [k0_part26_eq_skeleton]; unfold k0_part26_skel
  simp only [Prog.lift, Prog.bind_op, Prog.bind_ret, Prog.pure_eq_ret]
  apply step_load_out (5, 1)
  intro _
  apply step_store (5, 1)
  apply step_recv (6, 0)
  apply step_recv (6, 1)
  apply step_load (6, 0)
  exact stop (and_pure rfl)

/-- Part 27: awaits the arrival of (6, 2), (6, 3); loads half (6, 1); stores the product of half (6, 0). -/
theorem part27 (v u t : BitVec 32) :
    St m ρ K c 28 26 14 0 ⊢ run c (k0_part27 aM hA bM hB oM hO gM hG cc0_scratch1 cc0_scratch2 c v (k0_pay2 (bStg m ρ c)) (part m ρ c (px 6 c) 0) u t) fun r => iprop(⌜r.1 = part m ρ c (px 6 c) 1⌝ ∗ St m ρ K c 28 28 15 0) := by
  rw [k0_part27_eq_skeleton]; unfold k0_part27_skel
  simp only [Prog.lift, Prog.bind_op, Prog.bind_ret, Prog.pure_eq_ret]
  apply step_load_out (6, 0)
  intro _
  apply step_store (6, 0)
  apply step_recv (6, 2)
  apply step_recv (6, 3)
  apply step_load (6, 1)
  exact stop (and_pure rfl)

/-- Part 28: stores the product of half (6, 1); awaits the departure of (1, 0), (3, 0), (4, 0). -/
theorem part28 (u t : BitVec 32) :
    St m ρ K c 28 28 15 0 ⊢ run c (k0_part28 aM hA bM hB oM hO gM hG cc0_scratch1 cc0_scratch2 c (part m ρ c (px 6 c) 1) u t) fun _ => St m ρ K c 28 28 16 3 := by
  rw [k0_part28_eq_skeleton]; unfold k0_part28_skel
  simp only [Prog.lift, Prog.bind_op, Prog.bind_ret, Prog.pure_eq_ret]
  apply step_load_out (6, 1)
  intro _
  apply step_store (6, 1)
  apply step_depart (1, 0)
  apply step_depart (3, 0)
  apply step_depart (4, 0)
  exact stop .rfl

/-- Part 29: awaits the departure of (1, 1), (3, 1), (4, 1). -/
theorem part29 :
    St m ρ K c 28 28 16 3 ⊢ run c (k0_part29 aM hA bM hB oM hO gM hG cc0_scratch1 cc0_scratch2) fun _ => St m ρ K c 28 28 16 6 := by
  rw [k0_part29_eq_skeleton]; unfold k0_part29_skel
  simp only [Prog.lift, Prog.bind_op, Prog.bind_ret, Prog.pure_eq_ret]
  apply step_depart (1, 1)
  apply step_depart (3, 1)
  apply step_depart (4, 1)
  exact stop .rfl

/-- Part 30: awaits the departure of (1, 2), (3, 2), (4, 2). -/
theorem part30 :
    St m ρ K c 28 28 16 6 ⊢ run c (k0_part30 aM hA bM hB oM hO gM hG cc0_scratch1 cc0_scratch2) fun _ => St m ρ K c 28 28 16 9 := by
  rw [k0_part30_eq_skeleton]; unfold k0_part30_skel
  simp only [Prog.lift, Prog.bind_op, Prog.bind_ret, Prog.pure_eq_ret]
  apply step_depart (1, 2)
  apply step_depart (3, 2)
  apply step_depart (4, 2)
  exact stop .rfl

/-- Part 31: awaits the departure of (1, 3), (3, 3), (4, 3), (5, 0). -/
theorem part31 :
    St m ρ K c 28 28 16 9 ⊢ run c (k0_part31 aM hA bM hB oM hO gM hG cc0_scratch1 cc0_scratch2) fun _ => St m ρ K c 28 28 16 13 := by
  rw [k0_part31_eq_skeleton]; unfold k0_part31_skel
  simp only [Prog.lift, Prog.bind_op, Prog.bind_ret, Prog.pure_eq_ret]
  apply step_depart (1, 3)
  apply step_depart (3, 3)
  apply step_depart (4, 3)
  apply step_depart (5, 0)
  exact stop .rfl

/-- Part 32: awaits the departure of (2, 0), (7, 0), (5, 1). -/
theorem part32 :
    St m ρ K c 28 28 16 13 ⊢ run c (k0_part32 aM hA bM hB oM hO gM hG cc0_scratch1 cc0_scratch2) fun _ => St m ρ K c 28 28 16 16 := by
  rw [k0_part32_eq_skeleton]; unfold k0_part32_skel
  simp only [Prog.lift, Prog.bind_op, Prog.bind_ret, Prog.pure_eq_ret]
  apply step_depart (2, 0)
  apply step_depart (7, 0)
  apply step_depart (5, 1)
  exact stop .rfl

/-- Part 33: awaits the departure of (2, 1), (7, 1), (5, 2). -/
theorem part33 :
    St m ρ K c 28 28 16 16 ⊢ run c (k0_part33 aM hA bM hB oM hO gM hG cc0_scratch1 cc0_scratch2) fun _ => St m ρ K c 28 28 16 19 := by
  rw [k0_part33_eq_skeleton]; unfold k0_part33_skel
  simp only [Prog.lift, Prog.bind_op, Prog.bind_ret, Prog.pure_eq_ret]
  apply step_depart (2, 1)
  apply step_depart (7, 1)
  apply step_depart (5, 2)
  exact stop .rfl

/-- Part 34: awaits the departure of (2, 2), (7, 2), (5, 3), (2, 3). -/
theorem part34 :
    St m ρ K c 28 28 16 19 ⊢ run c (k0_part34 aM hA bM hB oM hO gM hG cc0_scratch1 cc0_scratch2) fun _ => St m ρ K c 28 28 16 23 := by
  rw [k0_part34_eq_skeleton]; unfold k0_part34_skel
  simp only [Prog.lift, Prog.bind_op, Prog.bind_ret, Prog.pure_eq_ret]
  apply step_depart (2, 2)
  apply step_depart (7, 2)
  apply step_depart (5, 3)
  apply step_depart (2, 3)
  exact stop .rfl

/-- Part 35: awaits the departure of (7, 3), (6, 0), (6, 1). -/
theorem part35 :
    St m ρ K c 28 28 16 23 ⊢ run c (k0_part35 aM hA bM hB oM hO gM hG cc0_scratch1 cc0_scratch2) fun _ => St m ρ K c 28 28 16 26 := by
  rw [k0_part35_eq_skeleton]; unfold k0_part35_skel
  simp only [Prog.lift, Prog.bind_op, Prog.bind_ret, Prog.pure_eq_ret]
  apply step_depart (7, 3)
  apply step_depart (6, 0)
  apply step_depart (6, 1)
  exact stop .rfl

end Cert.KernelIdealProof

end
-- ==== Proof.KernelIdeal.Start.lean ====
/-
  The start of a device's run: the barrier, by which neighbours make room for each other's transfers, and the device's own
  block, stored into slot 0.
-/
module

public import proofs.«01_k».proof.Proof.KernelIdeal.Body

@[expose] public section

noncomputable section

namespace Cert.KernelIdealProof

open Cert.KernelIdeal Cert.KernelIdeal.Gen Cert.Plan Cert.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable {m ρ}
variable {K : Dev nD × CI → ℕ} {c : Dev nD}
variable {hA : (aM : Memref sig .tc .vmem S768x384 .bf16).IsWhole} {hB : (bM : Memref sig .tc .vmem S384x768 .bf16).IsWhole}
  {hO : (oM : Memref sig .tc .vmem S6144x768 .bf16).IsWhole} {hG : (gM : Memref sig .tc .vmem S8x768x384 .bf16).IsWhole}

/-! ## What a device starts with -/

variable (m ρ)

/-- The rights to signal the barriers of the neighbours. -/
def knocks (c : Dev nD) : sProp 𝕄 :=
  iprop(dutyTok ER (barCell (px 1 c)) 0 1 ∗ dutyTok ER (barCell (px 3 c)) 0 3 ∗ dutyTok ER (barCell (px 4 c)) 0 4)

/-- The rights to signal at both ends of every transfer that the device issues. -/
def tickets (c : Dev nD) (y : Qt) : sProp 𝕄 := iprop(dutyTok ER (sendCell c y) 0 0 ∗ dutyTok ER (recvCell (px (link y) c) y) 0 0)

/-- The whole of a device's holdings before its program runs. -/
def start (K : Dev nD × CI → ℕ) (c : Dev nD) : sProp 𝕄 :=
  iprop(records m ρ K ∗ levAts L lv ∗ (∃ W, owes (c : Thread nD τ) (O₀ c) W)
    ∗ knocks c ∗ bigSepL sOrd (tickets c)
    ∗ atPos ER (barCell c) 0 ∅ 0 ∗ cred (tallyAt (barCell c) () 3)
    ∗ bigSepL sOrd (fun y => atPos ER (sendCell c y) 0 ∅ 0)
    ∗ bigSepL sOrd (fun y => iprop(atPos ER (recvCell c y) 0 ∅ 0 ∗ cred (tallyAt (recvCell c y) () N)))
    ∗ bigSepL own (fun y => iprop(atPos ER (sendCell c y) 0 ∅ 0 ∗ atPos ER (recvCell c y) 0 ∅ 0))
    ∗ aPts m ρ c ∗ bPts m ρ c ∗ (∃ f, ((c : Thread nD τ).loc cc0_stg2_0) ↦{fullShare} f) ∗ (∃ f, ((c : Thread nD τ).loc cc0_scratch0) ↦{fullShare} f))

/-! ## Pieces -/

variable {m ρ}

/-- The first device the kernel computes is across link 1. -/
theorem dev1 : ∀ c : Dev nD, (⟨k0_dev1 c, k0_dev1_lt c⟩ : Dev nD) = px 1 c := by decide +kernel
/-- The second device the kernel computes is across link 3. -/
theorem dev2 : ∀ c : Dev nD, (⟨k0_dev2 c, k0_dev2_lt c⟩ : Dev nD) = px 3 c := by decide +kernel
/-- The third device the kernel computes is across link 4. -/
theorem dev3 : ∀ c : Dev nD, (⟨k0_dev3 c, k0_dev3_lt c⟩ : Dev nD) = px 4 c := by decide +kernel

/-- A device's own room for what comes over link `g` is what it hands to its neighbour there. -/
theorem bar_payload (c : Dev nD) (g : Fin 8) : bigSepL (over g) (room (F := F) c) ⊢ (rd (F := F) m ρ).payload (barCell (px g c)) 0 g := by
  rw [payload_bar, px_px]

/-- Room at the neighbours is room for all transfers. -/
theorem rooms (c : Dev nD) :
    bigSepL [1, 3, 4] (fun d => bigSepL (over d) (fun y => room (F := F) (px d c) y)) = bigSepL sOrd (fun y => room (F := F) (px (link y) c) y) := by
  rw [← chain_perm over_perm, bigSepL_append, bigSepL_append, bigSepL_cons', bigSepL_cons', bigSepL_singleton]
  have h : ∀ d : Fin 8, bigSepL (over d) (fun y => room (F := F) (px d c) y) = bigSepL (over d) (fun y => room (F := F) (px (link y) c) y) :=
    fun d => chain_congr fun y hy => by rw [(mem_over hy).2]
  rw [h, h, h]

/-- The slots with any contents: slot 0, and the device's own room for arrivals, by links. -/
theorem slots_start (c : Dev nD) (f : Buf (Elt F) ((c : Thread nD τ).loc cc0_scratch0)) :
    ((((c : Thread nD τ).loc cc0_scratch0) ↦{fullShare} f : sProp 𝕄))
      ⊢ iprop((((c : Thread nD τ).loc cc0_scratch0) ↦[(slotR.set : Finset S8x768x384.Idx)]{fullShare} f)
        ∗ bigSepL (over 1) (room (F := F) c) ∗ bigSepL (over 3) (room (F := F) c) ∗ bigSepL (over 4) (room (F := F) c)) := by
  rw [slots_split, bigSepL_append, ← slot_split, ← bigSepL_append, ← bigSepL_append, chain_perm over_perm]
  refine sep_mono_right (bigSepL_mono fun y _ => ?_)
  unfold room
  iintro H; iexists f; iexact H

/-- Loading slot 0 reads only slot 0. -/
theorem slot_reads : (gM : Memref sig .tc .vmem S8x768x384 .bf16).view.setOn slotR.toLoadRect.set ⊆ (slotR.set : Finset S8x768x384.Idx) := fun i hi => by
  obtain ⟨i', hi', rfl⟩ := Finset.mem_map.mp hi
  exact hi'
/-- Storing slot 0 writes only slot 0. -/
theorem slot_writes : ((gM : Memref sig .tc .vmem S8x768x384 .bf16).access slotR).setOn Finset.univ ⊆ (slotR.set : Finset S8x768x384.Idx) := fun i hi => by
  obtain ⟨k, -, rfl⟩ := Finset.mem_map.mp hi
  rw [← Rect.map_emb_univ]; exact Finset.mem_map.mpr ⟨k, Finset.mem_univ _, rfl⟩

/-- Slot 0 once the device's own block is in it. -/
theorem slot_open (c : Dev nD) :
    ((((c : Thread nD τ).loc cc0_scratch0) ↦[(slotR.set : Finset S8x768x384.Idx)]{fullShare} slots m ρ c : sProp 𝕄))
      = iprop(bigSepL own (kept m ρ c) ∗ bigSepL (ready 0 0) (lent m ρ c)) := by
  rw [slot_split, chain_congr (fun y _ => quarter_open m ρ c y), chain_sep, chain_perm ready_start, chain_flatMap]

/-- The semaphores of slot 0 are not used: they close at zero. -/
theorem close_own (l : List Qt) (h : ∀ y ∈ l, y ∉ sOrd) :
    iprop(records m ρ K ∗ bigSepL l (fun y => iprop(atPos ER (sendCell c y) 0 ∅ 0 ∗ atPos ER (recvCell c y) 0 ∅ 0)))
      ⊢ iprop(|={Set.univ}=> bigSepL l (fun y => iprop(semVal (sendCell c y) 0 ∗ semVal (recvCell c y) 0)) : sProp 𝕄) := by
  induction l with
  | nil => iintro ⟨-, H⟩; imodintro; iexact H
  | cons y l ih =>
    rw [bigSepL_cons', bigSepL_cons']
    iintro ⟨#HR, ⟨H1, H2⟩, H⟩
    ihave #HI1 := records_inv m ρ K c (.inr (.inl y)) $$ HR
    ihave #HI2 := records_inv m ρ K c (.inr (.inr y)) $$ HR
    imod (Rounds.cell_close ER (rd m ρ) (Set.mem_univ (K (c, .inr (.inl y)))) (fun h => h) (R := 0)
      (fun r _ => duties_own_send m ρ c (h y List.mem_cons_self) r)) $$ [H1] with Hz1
    · isplitr; · iexact HI1
      iexact H1
    imod (Rounds.cell_close ER (rd m ρ) (Set.mem_univ (K (c, .inr (.inr y)))) (fun h => h) (R := 0)
      (fun r _ => duties_own_recv m ρ c (h y List.mem_cons_self) r)) $$ [H2] with Hz2
    · isplitr; · iexact HI2
      iexact H2
    imod (ih fun z hz => h z (List.mem_cons_of_mem _ hz)) $$ [H] with H
    · isplitr; · iexact HR
      iexact H
    imodintro
    isplitl [Hz1 Hz2]
    · isplitl [Hz1]; · iexact Hz1
      iexact Hz2
    iexact H

/-- The rights and the room make the way free for all transfers. -/
theorem passages (c : Dev nD) :
    iprop(bigSepL sOrd (tickets c) ∗ bigSepL sOrd (fun y => room (F := F) (px (link y) c) y)) ⊢ bigSepL sOrd (passage c) := by
  rw [← chain_sep]
  refine bigSepL_mono fun y _ => ?_
  unfold tickets passage
  iintro ⟨⟨H1, H2⟩, H3⟩
  isplitl [H1]; · iexact H1
  isplitl [H2] <;> iassumption

/-! ## The first part -/

/-- Part 1: the signals to the three neighbours, the wait for theirs, and the own block stored into slot 0. -/
theorem part1 : start m ρ K c ⊢ run c (k0_part1 aM hA bM hB oM hO gM hG cc0_scratch1 cc0_scratch2) fun r => iprop(⌜r.1 = c⌝ ∗ St m ρ K c 0 0 0 0) := by
  rw [k0_part1_eq_skeleton]; unfold k0_part1_skel
  simp only [semSignalWord, semWaitWord, Prog.lift, Prog.bind_op, Prog.bind_ret, Prog.pure_eq_ret, wp_deviceId, dev1, dev2, dev3]
  unfold start knocks
  iintro ⟨#HR, #HL, ⟨%W, HO⟩, ⟨Hk1, Hk3, Hk4⟩, Ht, Hat, Hcr, Hsp, Hrp, Hown, HA, HB, ⟨%fo, HOut⟩, ⟨%fg, HG⟩⟩
  ihave ⟨HG, Hr1, Hr3, Hr4⟩ := (slots_start c fg) $$ HG
  ihave #HI := records_inv m ρ K c (.inl ()) $$ HR
  ihave #HI1 := records_inv m ρ K (px 1 c) (.inl ()) $$ HR
  ihave #HI3 := records_inv m ρ K (px 3 c) (.inl ()) $$ HR
  ihave #HI4 := records_inv m ρ K (px 4 c) (.inl ()) $$ HR
  ihave #HE1 := records_reached m ρ K (px 1 c) (.inl ()) $$ HR
  ihave #HE3 := records_reached m ρ K (px 3 c) (.inl ()) $$ HR
  ihave #HE4 := records_reached m ρ K (px 4 c) (.inl ()) $$ HR
  iapply (Rounds.wp_signal 𝒱₀ ER (rd m ρ) (c : Thread nD τ) none (dst := (px 1 c : Thread nD τ)) (κ := K (px 1 c, .inl ()))
    (d := 1) (by rw [duties_bar]; decide) ((amount_bar m ρ (px 1 c) 1).trans (by decide)) () (owed c sOrd + owedBar c 4 + owedBar c 3) rfl)
    $$ [HO Hk1 Hr1]
  · isplitr; · iexact HI1
    isplitl [HO]; · iexact HO
    isplitl [Hk1]; · iexact Hk1
    isplitl [Hr1]; · iapply (bar_payload c 1); iexact Hr1
    iexact HE1
  iintro HO
  iapply (Rounds.wp_signal 𝒱₀ ER (rd m ρ) (c : Thread nD τ) none (dst := (px 3 c : Thread nD τ)) (κ := K (px 3 c, .inl ()))
    (d := 3) (by rw [duties_bar]; decide) ((amount_bar m ρ (px 3 c) 3).trans (by decide)) () (owed c sOrd + owedBar c 4) rfl)
    $$ [HO Hk3 Hr3]
  · isplitr; · iexact HI3
    isplitl [HO]; · iexact HO
    isplitl [Hk3]; · iexact Hk3
    isplitl [Hr3]; · iapply (bar_payload c 3); iexact Hr3
    iexact HE3
  iintro HO
  iapply (Rounds.wp_signal 𝒱₀ ER (rd m ρ) (c : Thread nD τ) none (dst := (px 4 c : Thread nD τ)) (κ := K (px 4 c, .inl ()))
    (d := 4) (by rw [duties_bar]; decide) ((amount_bar m ρ (px 4 c) 4).trans (by decide)) () (owed c sOrd) rfl)
    $$ [HO Hk4 Hr4]
  · isplitr; · iexact HI4
    isplitl [HO]; · iexact HO
    isplitl [Hk4]; · iexact Hk4
    isplitl [Hr4]; · iapply (bar_payload c 4); iexact Hr4
    iexact HE4
  iintro HO
  ihave #HM := may_wait_owed c (.reg barS) sOrd (fun z _ => by
    rw [show ((c : Thread nD τ), SemLoc.reg barS) = barCell c from rfl, lv_bar]; exact height_gt_one z) $$ HL
  iapply (Rounds.wp_wait_rest_token 𝒱₀ ER (rd m ρ) (c : Thread nD τ) none (κ := K (c, .inl ()))
    (wpE_semWait_eq 𝒱₀ (c : Thread nD τ) none Set.univ) (Set.mem_univ _) () (O := owed c sOrd) (W := W) (R := 0) (m := 0) (T := ∅)
    (show 0 + (3#32).toInt.toNat = (rd m ρ).expect (barCell c) 0 by rw [expect_bar]; decide)) $$ [Hat Hcr HO]
  · isplitr; · iexact HI
    isplitl [Hcr]; · iexact Hcr
    isplitl [HO]; · iexact HO
    isplitr; · iexact HM
    iexact Hat
  iintro ⟨HO, Hat, -, Hpay⟩
  ihave Hrooms := (Entails.of_eq ((rest_bar m ρ c).trans (rooms c))) $$ Hpay
  imod (Rounds.cell_close ER (rd m ρ) (Set.mem_univ (K (c, .inl ()))) (fun h => h) (R := 0 + 1) (duties_later m ρ _)) $$ [Hat] with Hbar
  · isplitr; · iexact HI
    iexact Hat
  imod (close_own (K := K) (c := c) own fun y h => mem_own h) $$ [Hown] with Hown
  · isplitr; · iexact HR
    iexact Hown
  unfold aPts
  iapply (wp_load 𝒱₀ (c : Thread nD τ) none Set.univ (m := aM) (r := aR.toLoadRect) (S := Finset.univ) (Finset.subset_univ _)) $$ HA
  iintro HA
  rw [load_a (aStg m ρ c)]
  iapply (wp_load 𝒱₀ (c : Thread nD τ) none Set.univ (m := gM) (r := slotR.toLoadRect) (S := (slotR.set : Finset S8x768x384.Idx)) slot_reads) $$ HG
  iintro HG
  iapply (wp_store 𝒱₀ (c : Thread nD τ) none Set.univ (m := gM) (r := slotR) (Mk := Finset.univ) (S := (slotR.set : Finset S8x768x384.Idx)) slot_writes) $$ HG
  iintro HG
  ihave HG := (Entails.of_eq ((pointsTo_congr fun i hi => store_own m ρ c fg i hi).trans (slot_open c))) $$ HG
  icases HG with ⟨Hkept, Hready⟩
  iapply stop (c := c) .rfl
  isplitr; · ipureintro; rfl
  unfold St settled aPts
  isplitr; · iexact HR
  isplitr; · iexact HL
  isplitl [HO]; · iexists _; iexact HO
  isplitl [Ht Hrooms]; · iapply passages; isplitl [Ht] <;> iassumption
  isplitl [Hready]; · iexact Hready
  isplitr; · iempintro
  isplitl [Hsp]; · iexact Hsp
  isplitr; · iempintro
  isplitl [Hrp]; · iapply (Entails.of_eq (chain_perm rOrd_perm _).symm); iexact Hrp
  isplitr; · iempintro
  isplitl [Hkept]; · iexact Hkept
  isplitl [HA]; · iexact HA
  isplitl [HB]; · iexact HB
  isplitl [HOut]
  · unfold oPts
    iexists fo; isplitr; · ipureintro; exact fun _ h => nomatch h
    iexact HOut
  isplitl [Hbar]; · iexact Hbar
  iexact Hown

end Cert.KernelIdealProof

end
-- ==== Proof.KernelIdeal.Whole.lean ====
/-
  A device's whole program: its parts in order, from what it starts with to all transfers sent, received and departed and
  all products stored.
-/
module

public import proofs.«01_k».proof.Proof.KernelIdeal.Start

@[expose] public section

set_option maxRecDepth 65536

noncomputable section

namespace Cert.KernelIdealProof

open Cert.KernelIdeal Cert.KernelIdeal.Gen Cert.Plan Cert.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable {m ρ}
variable {K : Dev nD × CI → ℕ} {c : Dev nD}
variable {hA : (aM : Memref sig .tc .vmem S768x384 .bf16).IsWhole} {hB : (bM : Memref sig .tc .vmem S384x768 .bf16).IsWhole}
  {hO : (oM : Memref sig .tc .vmem S6144x768 .bf16).IsWhole} {hG : (gM : Memref sig .tc .vmem S8x768x384 .bf16).IsWhole}

/-- Two programs in sequence. -/
theorem seq {α β : Type} {P : sProp 𝕄} {p : Prog (TpuEff nD τ sig (Elt F) Λ₀ .tc) α} {k : α → Prog (TpuEff nD τ sig (Elt F) Λ₀ .tc) β}
    {R : α → sProp 𝕄} {Q : β → sProp 𝕄} (h : P ⊢ run c p R) (hk : ∀ a, R a ⊢ run c (k a) Q) : P ⊢ run c (p >>= k) Q := by
  rw [show run c (p >>= k) Q = run c p (fun a => run c (k a) Q) from wp_bind _ _ _ _ _ _]
  exact h.trans (wp_mono _ _ _ hk)

/-- A fact may be taken out of what is held. -/
theorem pure_pre {P X : sProp 𝕄} {φ : Prop} (h : φ → P ⊢ X) : iprop(⌜φ⌝ ∗ P) ⊢ X := by
  iintro ⟨%hφ, H⟩; iapply (h hφ); iexact H

/-- All but the last wait. -/
theorem part36 : start m ρ K c ⊢ run c (k0_part36 aM hA bM hB oM hO gM hG cc0_scratch1 cc0_scratch2) fun _ => St m ρ K c 28 28 16 27 := by
  rw [k0_part36_eq_skeleton]; unfold k0_part36_skel
  refine seq part1 ?_; rintro ⟨d, v⟩; refine pure_pre ?_; rintro rfl
  refine seq (part2 v) ?_; intro _
  refine seq (part3 v) ?_; intro _
  refine seq (part4 v _) ?_; intro _
  refine seq (part5 v) ?_; intro _
  refine seq (part6 v _) ?_; rintro ⟨b, u, p, t⟩; refine pure_pre ?_; rintro ⟨rfl, rfl⟩
  refine seq (part7 v _ _) ?_; intro _
  refine seq (part8 v) ?_; intro _
  refine seq (part9 v) ?_; intro _
  refine seq (part10 v) ?_; intro _
  refine seq (part11 v _) ?_; intro _
  refine seq (part12 v) ?_; intro _
  refine seq (part13 v _) ?_; intro _
  refine seq (part14 v) ?_; intro _
  refine seq (part15 v _) ?_; intro _
  refine seq (part16 v) ?_; intro _
  refine seq (part17 v) ?_; intro _
  refine seq (part18 v) ?_; intro _
  refine seq (part19 v _) ?_; intro _
  refine seq (part20 v _) ?_; intro _
  refine seq (part21 v) ?_; intro p; refine pure_pre ?_; rintro rfl
  refine seq (part22 v) ?_; intro _
  refine seq (part23 v) ?_; intro _
  refine seq (part24 v) ?_; intro _
  refine seq (part25 v) ?_; rintro ⟨p, u, t⟩; refine pure_pre ?_; rintro rfl
  refine seq (part26 v _ _) ?_; rintro ⟨p, u, t⟩; refine pure_pre ?_; rintro rfl
  refine seq (part27 v _ _) ?_; rintro ⟨p, u, t⟩; refine pure_pre ?_; rintro rfl
  refine seq (part28 _ _) ?_; intro _
  refine seq part29 ?_; intro _
  refine seq part30 ?_; intro _
  refine seq part31 ?_; intro _
  refine seq part32 ?_; intro _
  refine seq part33 ?_; intro _
  refine seq part34 ?_; intro _
  refine seq part35 ?_; intro _
  simp only [Prog.lift, Prog.bind_op, Prog.bind_ret, Prog.pure_eq_ret]
  apply step_depart (6, 2)
  exact stop .rfl

/-- A device's program runs to its end from what the device starts with. -/
theorem body_run : start m ρ K c ⊢ run c (cc0_body aM hA bM hB oM hO gM hG cc0_scratch1 cc0_scratch2) fun _ => St m ρ K c 28 28 16 28 := by
  rw [cc0_body_eq_skeleton]; unfold cc0_body_skel
  refine seq part36 ?_; intro _
  simp only [Prog.lift, Prog.bind_op, Prog.bind_ret, Prog.pure_eq_ret]
  apply step_depart (6, 3)
  exact stop .rfl

end Cert.KernelIdealProof

end
-- ==== Proof.KernelIdeal.Finish.lean ====
/-
  The end of a device's run: everything that was split for the exchange is put together again.
-/
module

public import proofs.«01_k».proof.Proof.KernelIdeal.Whole

@[expose] public section

noncomputable section

namespace Cert.KernelIdealProof

open Cert.KernelIdeal Cert.KernelIdeal.Gen Cert.Plan Cert.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- What a device is left with: its blocks, the result, the slots, and every semaphore at zero. -/
def finished (c : Dev nD) : sProp 𝕄 :=
  iprop((∃ W, owes (c : Thread nD τ) (0 : CellTallies nD τ sig Unit) W)
    ∗ aPts m ρ c ∗ bPts m ρ c ∗ (((c : Thread nD τ).loc cc0_stg2_0) ↦{fullShare} result m ρ c)
    ∗ (∃ f : Buf (Elt F) ((c : Thread nD τ).loc cc0_scratch0), ((c : Thread nD τ).loc cc0_scratch0) ↦{fullShare} f)
    ∗ semVal (barCell c) 0
    ∗ bigSepL (own ++ sOrd) (fun y => semVal (sendCell c y) 0)
    ∗ bigSepL (own ++ sOrd) (fun y => semVal (recvCell c y) 0))

omit [FloatOps F] in
/-- What is kept of all quarters, with what was lent of them, is all slots. -/
theorem slots_close (c : Dev nD) :
    iprop(bigSepL (held 28) (kept m ρ c) ∗ bigSepL sOrd (lent m ρ c))
      = (((c : Thread nD τ).loc cc0_scratch0) ↦{fullShare} slots m ρ c : sProp 𝕄) := by
  rw [slots_split, chain_congr (fun y _ => quarter_open m ρ c y), chain_sep, ← chain_flatMap, ← chain_perm outs_all, chain_perm held_all]

/-- The state after the last operation is the end. -/
theorem finish (K : Dev nD × CI → ℕ) (c : Dev nD) : St m ρ K c 28 28 16 28 ⊢ finished m ρ c := by
  unfold St finished settled oPts
  rw [show sOrd.drop 28 = [] from rfl, show sOrd.take 28 = sOrd from rfl, show rOrd.take 28 = rOrd from rfl, show cOrd.take 16 = cOrd from rfl,
    chain_sep, chain_sep, chain_sep, bigSepL_append, bigSepL_append, chain_perm rOrd_perm]
  iintro ⟨-, -, Ho, -, -, -, -, ⟨Hs, Hl⟩, -, Hr, Hk, Ha, Hb, ⟨%f, %hf, Hf⟩, Hbar, Hos, Hor⟩
  rw [done_all m ρ c f hf]
  isplitl [Ho]; · iexact Ho
  isplitl [Ha]; · iexact Ha
  isplitl [Hb]; · iexact Hb
  isplitl [Hf]; · iexact Hf
  isplitl [Hk Hl]
  · iexists (slots m ρ c)
    rw [← slots_close]
    isplitl [Hk]; · iexact Hk
    iexact Hl
  isplitl [Hbar]; · iexact Hbar
  isplitl [Hos Hs]
  · isplitl [Hos]; · iexact Hos
    iexact Hs
  isplitl [Hor]; · iexact Hor
  iexact Hr

end Cert.KernelIdealProof

end
-- ==== Proof.KernelIdeal.Deal.lean ====
/-
  What the launch deals: the records of all semaphores, to each device the rights to signal that its part of the exchange
  uses, and credit for everything the other devices owe it.
-/
module

public import proofs.«01_k».proof.Proof.KernelIdeal.Finish

@[expose] public section

noncomputable section

namespace Cert.KernelIdealProof

open Cert.KernelIdeal Cert.KernelIdeal.Gen Cert.Plan Cert.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The semaphores and the rights as they are made -/

/-- The kernel's own semaphores, by transfer: the sender's ends and the receiver's ends. -/
abbrev osem : Qt ⊕ Qt → SemLoc sig := fun x => csem (.inr x)

/-- The exchange's semaphores are apart from each other and from those that stage the arrays. -/
theorem ownSemFacts : Pipeline.OwnSemFacts cfg0.spec osem where
  isScoped := by decide +kernel
  inj := fun x y h => Sum.inr.inj (csem_injective h)
  disj := by decide +kernel

/-- All semaphores of the exchange, on all devices. -/
def allCells : Finset (GSem nD τ sig) := Finset.univ.map ⟨kcell, kcell_injective⟩

/-- The rights to signal the semaphores of a device: its barrier once for each link, every other once. -/
abbrev duty (x : Dev nD × (Fin 8 ⊕ (Qt ⊕ Qt))) : GSem nD τ sig × ℕ × Fin 8 :=
  match x.2 with
  | .inl d => (barCell x.1, 0, d)
  | .inr k => (kcell (x.1, .inr k), 0, 0)

/-- Different rights are named differently. -/
theorem duty_injective : Function.Injective duty := by
  rintro ⟨c, d | k⟩ ⟨c', d' | k'⟩ h
  · have h1 : (c, (Sum.inl () : CI)) = (c', Sum.inl ()) := kcell_injective (congrArg Prod.fst h)
    have h2 : d = d' := congrArg (fun x : GSem nD τ sig × ℕ × Fin 8 => x.2.2) h
    have h3 : c = c' := congrArg Prod.fst h1
    rw [h2, h3]
  · exact nomatch congrArg Prod.snd (kcell_injective (a₁ := (c, .inl ())) (a₂ := (c', .inr k')) (congrArg Prod.fst h))
  · exact nomatch congrArg Prod.snd (kcell_injective (a₁ := (c, .inr k)) (a₂ := (c', .inl ())) (congrArg Prod.fst h))
  · have h1 : (c, (Sum.inr k : CI)) = (c', Sum.inr k') := kcell_injective (congrArg Prod.fst h)
    have h2 : c = c' := congrArg Prod.fst h1
    have h3 : k = k' := Sum.inr.inj (congrArg Prod.snd h1)
    rw [h2, h3]

/-- All rights to signal. -/
def allDuties : Finset (GSem nD τ sig × ℕ × Fin 8) := Finset.univ.map ⟨duty, duty_injective⟩

/-- The records with which the run starts: those of the staging and those of the exchange. -/
def u₀ : UU := (initOf (Pipeline.cells cfgs cellOf_inj) (Pipeline.launchToks cfgs cellOf_inj), initOf allCells allDuties)

/-- The rights to signal device `c`'s semaphores. -/
def made (c : Dev nD) : sProp 𝕄 :=
  iprop((bigSep Finset.univ fun d : Fin 8 => dutyTok ER (barCell c) 0 d)
    ∗ (bigSep Finset.univ fun y : Qt => dutyTok ER (sendCell c y) 0 0)
    ∗ bigSep Finset.univ fun y : Qt => dutyTok ER (recvCell c y) 0 0)

/-- The rights that device `c` uses: its neighbours' barriers, and both ends of each transfer it issues. -/
def used (c : Dev nD) : sProp 𝕄 :=
  iprop((bigSep Finset.univ fun d : Fin 8 => dutyTok ER (barCell (px d c)) 0 d)
    ∗ (bigSep Finset.univ fun y : Qt => dutyTok ER (sendCell c y) 0 0)
    ∗ bigSep Finset.univ fun y : Qt => dutyTok ER (recvCell (px (link y) c) y) 0 0)

omit [FloatOps F] in
/-- A family over devices and links may be handed across the links. -/
theorem hand_over {T : Type} [Fintype T] (g : T → Fin 8) (Φ : Dev nD → T → sProp 𝕄) :
    (bigSep Finset.univ fun c : Dev nD => bigSep Finset.univ fun t : T => Φ c t)
      = bigSep Finset.univ fun c : Dev nD => bigSep Finset.univ fun t : T => Φ (px (g t) c) t := by
  rw [BI.bigSep_univ_comm, BI.bigSep_univ_comm (fun (c : Dev nD) (t : T) => Φ (px (g t) c) t)]
  exact congrArg (bigSep Finset.univ) (funext fun t => bigSep_univ_equiv (across (g t)) (fun c => Φ c t))

omit [FloatOps F] in
/-- The rights made for all devices are, handed across the links, the rights that all devices use. -/
theorem made_used : (bigSep Finset.univ fun c : Dev nD => (made c : sProp 𝕄)) = bigSep Finset.univ fun c : Dev nD => used c := by
  unfold made used
  rw [bigSep_sep', bigSep_sep', bigSep_sep', bigSep_sep',
    hand_over id (fun (c : Dev nD) (d : Fin 8) => (dutyTok ER (barCell c) 0 d : sProp 𝕄)),
    hand_over link (fun (c : Dev nD) (y : Qt) => (dutyTok ER (recvCell c y) 0 0 : sProp 𝕄))]
  rfl

/-- What is made for device `c`: its semaphores' rounds, its places in them, the rights to signal them. -/
def G (c : Dev nD) : sProp 𝕄 :=
  iprop((bigSep Finset.univ fun k : CI => roundState ER (rd m ρ) (kcell (c, k)) 0)
    ∗ (bigSep Finset.univ fun k : CI => iprop(atPos ER (kcell (c, k)) 0 ∅ 0 ∗ reached ER (kcell (c, k)) 0)) ∗ made c)

/-- What device `c` is dealt of it, besides the records. -/
def dealt (c : Dev nD) : sProp 𝕄 := iprop((bigSep Finset.univ fun k : CI => atPos ER (kcell (c, k)) 0 ∅ 0) ∗ used c)

/-- What device `c` has at its start: the records of everyone, and its own share of places and rights. -/
def G' (c : Dev nD) : sProp 𝕄 := iprop(∃ K, records m ρ K ∗ dealt c)

omit [FloatOps F] in
/-- The starting records give what is made for every device. -/
theorem fund_all : BI.own (ER (initOf allCells allDuties)) ⊢ (|==> bigSep Finset.univ (G m ρ) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allDuties (fun x => (dutyTok ER x.1 x.2.1 x.2.2 : sProp 𝕄)) = bigSep Finset.univ fun c : Dev nD => made c := by
    unfold allDuties; rw [bigSep_map, bigSep_univ_prod]
    exact bigSep_congr fun c _ => by unfold made; rw [all_sum, all_sum]; rfl
  iintro H
  imod (Rounds.fund ER (rd m ρ) allCells allDuties) $$ H with ⟨Hst, Hr, Hat, Htok⟩
  imodintro
  ihave Hst := (Entails.of_eq (hX fun g => roundState ER (rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
/-- The one semaphore that outlives the kernel is the barrier. -/
theorem unscoped_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
/-- The kernel's own semaphores at zero, as two lists. -/
theorem own_eq (c : Dev nD) : (Pipeline.ownSems0 (Ix := Unit) (Name := ℕ) (U := UU) (Lvl := ℕ) (Val := Elt F) (τ := τ) osem c : sProp 𝕄)
    = iprop(bigSepL (Plan.own ++ sOrd) (fun y => semVal (sendCell c y) 0) ∗ bigSepL (Plan.own ++ sOrd) (fun y => semVal (recvCell c y) 0)) := by
  unfold Pipeline.ownSems0
  rw [all_sum, bigSep_univ_eq_bigSepL _ all_univ all_nodup, bigSep_univ_eq_bigSepL _ all_univ all_nodup]; rfl

omit [FloatOps F] in
/-- All semaphores of a device at zero. -/
theorem zeros (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscoped_eq, all_sum, bigSep_univ_of_subsingleton ()]
  unfold Pipeline.ownSems0
  iintro ⟨H, HB⟩
  isplitl [HB]; · iexact HB
  iexact H

omit [FloatOps F] in
/-- A device's semaphores are put under their invariants. -/
theorem device_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ made c) := by
  have alloc : iprop((bigSep Finset.univ fun k : CI => semVal (kcell (c, k)) 0) ∗ bigSep Finset.univ fun k : CI => roundState ER (rd m ρ) (kcell (c, k)) 0)
      ⊢ (|={Set.univ}=> bigSep Finset.univ fun k => iprop(∃ κ : ℕ, cellInv ER (rd m ρ) κ (kcell (c, k))) : sProp 𝕄) := by
    rw [← bigSep_sep']
    exact (bigSep_mono fun k _ => (Rounds.body_intro ER (rd m ρ) (kcell (c, k))).trans inv_alloc).trans (bigSep_fupd _ _)
  unfold G
  iintro ⟨Ho, Hu, Hst, Hat, Htok⟩
  ihave Hv := (zeros (F := F) c) $$ [Ho Hu]
  · isplitl [Ho] <;> iassumption
  imod alloc $$ [Hv Hst] with Hinv
  · isplitl [Hv] <;> iassumption
  imodintro
  isplitl [Hinv]; · iexact Hinv
  isplitl [Hat]; · iexact Hat
  iexact Htok

omit [FloatOps F] in
/-- The records become common knowledge, the rights go to those who use them. -/
theorem deal :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ made c) : sProp 𝕄)
      ⊢ bigSep Finset.univ (G' m ρ) := by
  rw [bigSep_sep', bigSep_sep', ← bigSep_univ_prod (fun ck : Dev nD × CI => iprop(∃ κ : ℕ, cellInv ER (rd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)), made_used]
  iintro ⟨HI, ⟨Hat, #HR⟩, Hused⟩
  ihave HK := (BI.bigSep_exists_pi Finset.univ (fun (ck : Dev nD × CI) (κ : ℕ) => (cellInv ER (rd m ρ) κ (kcell ck) : sProp 𝕄))) $$ HI
  icases HK with ⟨%K, #HI⟩
  have each : iprop(records m ρ K ∗ bigSep Finset.univ (fun c : Dev nD => (dealt c : sProp 𝕄))) ⊢ bigSep Finset.univ (G' m ρ) := by
    refine (sep_mono_left (BI.bigSep_of_persistent (Finset.univ : Finset (Dev nD)) (records m ρ K))).trans ?_
    rw [← bigSep_sep']
    have one (c : Dev nD) : iprop(records m ρ K ∗ dealt c) ⊢ G' m ρ c := by unfold G'; iintro H; iexists K; iexact H
    exact bigSep_mono fun c _ => one c
  iapply each
  isplitr
  · unfold records; isplitl; · iexact HI
    iexact HR
  · unfold dealt; rw [bigSep_sep']
    isplitl [Hat]; · iexact Hat
    iexact Hused

omit [FloatOps F] in
/-- From all semaphores at zero, and what is made, every device is dealt its share. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => device_alloc m ρ c).trans (bigSep_fupd _ _)).trans (BI.fupd_mono (deal m ρ))

/-! ## Credit -/

/-- What device `d` owes to device `c`'s barrier over link `g`: a unit, if it is across that link. -/
theorem owedBar_apply (d c : Dev nD) (g : Fin 8) : owedBar d g (barCell c) () = if d = px g c then 1 else 0 := by
  unfold owedBar
  rw [tallyAt_apply]
  by_cases h : d = px g c
  · rw [if_pos h, h, px_px, if_pos ⟨rfl, rfl⟩]
  · rw [if_neg h, if_neg fun h' => h ((px_eq_iff g c d).mp (congrArg Prod.fst (kcell_injective (a₁ := (c, .inl ())) (a₂ := (px g d, .inl ())) h'.1)).symm)]

/-- A signal to a barrier is owed to no arrival. -/
theorem owedBar_recv (d c : Dev nD) (g : Fin 8) (y : Qt) : owedBar d g (recvCell c y) () = 0 := by
  unfold owedBar
  exact (tallyAt_apply _ _ _ _ _).trans (if_neg fun h => nomatch congrArg Prod.snd (kcell_injective (a₁ := (c, .inr (.inr y))) (a₂ := (px g d, .inl ())) h.1))

/-- A transfer is owed to no barrier. -/
theorem owed_bar (d c : Dev nD) (ys : List Qt) : owed d ys (barCell c) () = 0 := by
  by_contra h
  obtain ⟨y, -, h⟩ := owed_pos (Nat.pos_of_ne_zero h)
  exact nomatch congrArg Prod.snd (kcell_injective (a₁ := (c, .inl ())) (a₂ := (px (link y) d, .inr (.inr y))) h)

/-- What all devices owe to one arrival at device `c`: a quarter for each transfer that fills it. -/
theorem owed_sum (c : Dev nD) (y : Qt) (ys : List Qt) : ∑ d : Dev nD, owed d ys (recvCell c y) () = ys.count y * N := by
  induction ys with
  | nil => rw [List.count_nil, Nat.zero_mul]; exact Finset.sum_eq_zero fun _ _ => rfl
  | cons z ys ih =>
    have one (d : Dev nD) : (tallyAt (recvCell (px (link z) d) z) () N : CellTallies nD τ sig Unit) (recvCell c y) () = if d = px (link y) c then (if z = y then N else 0) else 0 := by
      rw [tallyAt_apply]
      by_cases hz : z = y
      · subst hz
        by_cases h : d = px (link z) c
        · rw [if_pos h, h, px_px, if_pos ⟨rfl, rfl⟩, if_pos rfl]
        · rw [if_neg h, if_neg fun h' => h ((px_eq_iff (link z) c d).mp (congrArg Prod.fst (kcell_injective (a₁ := (c, .inr (.inr z))) (a₂ := (px (link z) d, .inr (.inr z))) h'.1)).symm)]
      · rw [if_neg fun h' => hz (Sum.inr.inj (Sum.inr.inj (congrArg Prod.snd (kcell_injective (a₁ := (c, .inr (.inr y))) (a₂ := (px (link z) d, .inr (.inr z))) h'.1)))).symm, if_neg hz]
        split <;> rfl
    have step (d : Dev nD) : owed d (z :: ys) (recvCell c y) () = owed d ys (recvCell c y) () + if d = px (link y) c then (if z = y then N else 0) else 0 := by
      rw [← one]; rfl
    rw [Finset.sum_congr rfl fun d _ => step d, Finset.sum_add_distrib, ih, Finset.sum_ite_eq' Finset.univ (px (link y) c), if_pos (Finset.mem_univ _), List.count_cons]
    by_cases hz : z = y
    · subst hz; simp [Nat.add_mul]
    · simp [hz]

/-- The credit for a barrier's signals: three. -/
theorem credit_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  have each (d : Dev nD) : O₀ d (barCell c) () = 0 + (if d = px 4 c then 1 else 0) + (if d = px 3 c then 1 else 0) + (if d = px 1 c then 1 else 0) := by
    have h : O₀ d (barCell c) () = owed d sOrd (barCell c) () + owedBar d 4 (barCell c) () + owedBar d 3 (barCell c) () + owedBar d 1 (barCell c) () := rfl
    rw [h, owed_bar, owedBar_apply, owedBar_apply, owedBar_apply]
  rw [Pipeline.launchCredit_owing, Finsupp.single_eq_same, Finset.sum_congr rfl fun d _ => each d, Finset.sum_add_distrib, Finset.sum_add_distrib, Finset.sum_add_distrib,
    Finset.sum_ite_eq' Finset.univ (px 4 c), Finset.sum_ite_eq' Finset.univ (px 3 c), Finset.sum_ite_eq' Finset.univ (px 1 c),
    if_pos (Finset.mem_univ _), if_pos (Finset.mem_univ _), if_pos (Finset.mem_univ _), Finset.sum_const_zero]

/-- The credit for an arrival: a quarter. -/
theorem credit_recv (c : Dev nD) {y : Qt} (hy : y ∈ sOrd) :
    tallyOn (recvCell c y) (launchCredit (Pipeline.owing O₀) 0 (recvCell c y)) = (tallyAt (recvCell c y) () N : CellTallies nD τ sig Unit) := by
  unfold tallyAt; refine congrArg _ (Finsupp.ext fun u => ?_); cases u
  have each (d : Dev nD) : O₀ d (recvCell c y) () = owed d sOrd (recvCell c y) () := by
    have h : O₀ d (recvCell c y) () = owed d sOrd (recvCell c y) () + owedBar d 4 (recvCell c y) () + owedBar d 3 (recvCell c y) () + owedBar d 1 (recvCell c y) () := rfl
    rw [h, owedBar_recv, owedBar_recv, owedBar_recv]; rfl
  rw [Pipeline.launchCredit_owing, Finsupp.single_eq_same, Finset.sum_congr rfl fun d _ => each d, owed_sum, List.count_eq_one_of_mem sOrd_nodup hy, Nat.one_mul]

omit [FloatOps F] in
/-- Every device gets credit for three signals to its barrier and for all its arrivals. -/
theorem credits (c : Dev nD) :
    (Pipeline.launchCred O₀ c : sProp 𝕄) ⊢ iprop(cred (tallyAt (barCell c) () 3) ∗ bigSepL sOrd fun y => cred (tallyAt (recvCell c y) () N)) := by
  have some : (Pipeline.launchCred O₀ c : sProp 𝕄) ⊢ bigSep (Finset.univ.map ⟨csem, csem_injective⟩)
      fun sm : SemLoc sig => cred (tallyOn ((c : Thread nD τ), sm) (launchCredit (Pipeline.owing O₀) 0 ((c : Thread nD τ), sm))) := by
    unfold Pipeline.launchCred; exact BI.bigSep_subset (Finset.subset_univ _)
  rw [bigSep_map, all_sum, all_sum, bigSep_univ_of_subsingleton ()] at some
  have some : (Pipeline.launchCred O₀ c : sProp 𝕄) ⊢ iprop(cred (tallyOn (barCell c) (launchCredit (Pipeline.owing O₀) 0 (barCell c)))
      ∗ (bigSep Finset.univ fun y : Qt => cred (tallyOn (sendCell c y) (launchCredit (Pipeline.owing O₀) 0 (sendCell c y))))
      ∗ bigSep Finset.univ fun y : Qt => cred (tallyOn (recvCell c y) (launchCredit (Pipeline.owing O₀) 0 (recvCell c y)))) := some
  iintro H
  ihave H := some $$ H
  icases H with ⟨HB, -, H⟩
  isplitl [HB]
  · rw [← credit_bar]; iexact HB
  · ihave H := (chain_of_all sOrd_nodup fun y : Qt => (cred (tallyOn (recvCell c y) (launchCredit (Pipeline.owing O₀) 0 (recvCell c y))) : sProp 𝕄)) $$ H
    ihave H := (Entails.of_eq (chain_congr (M := 𝕄) fun y hy => congrArg cred (credit_recv c hy))) $$ H
    iexact H

end Cert.KernelIdealProof

end
-- ==== Proof.KernelIdeal.Run.lean ====
/-
  The run of the program on all eight devices: it ends, the arguments are as they were, the result array of every device
  holds `result`, and every semaphore is back at zero.
-/
module

public import proofs.«01_k».proof.Proof.KernelIdeal.Deal
public import proofs.«01_k».proof.Proof.Gen.KernelIdeal.Points
public import Idealize.ShloMosaic.Lib.Quiescent
public import Idealize.ShloMosaic.Lib.Pipeline.CollectiveSegs

@[expose] public section

noncomputable section

namespace Cert.KernelIdealProof

open Cert.KernelIdeal Cert.KernelIdeal.Gen Cert.Plan Cert.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The kernel as the region runs it -/

/-- What a device brings to its kernel besides the staged arrays and the slots. -/
def given (c : Dev nD) : sProp 𝕄 :=
  iprop(G' m ρ c ∗ levAts L lv ∗ cred (tallyAt (barCell c) () 3) ∗ bigSepL sOrd fun y => cred (tallyAt (recvCell c y) () N))

/-- The slots, with any contents. -/
def anySlots (c : Dev nD) : sProp 𝕄 :=
  iprop(∃ f : Buf (Elt F) ((c : Thread nD τ).loc cc0_scratch0), ((c : Thread nD τ).loc cc0_scratch0) ↦{fullShare} f)

/-- What a device's kernel leaves besides the staged arrays. -/
def left (c : Dev nD) : sProp 𝕄 :=
  iprop(anySlots (F := F) c ∗ semVal (barCell c) 0
    ∗ bigSepL (Plan.own ++ sOrd) (fun y => semVal (sendCell c y) 0) ∗ bigSepL (Plan.own ++ sOrd) (fun y => semVal (recvCell c y) 0))

/-- A device's run as the library sees it: its arrays before and after, what it holds at the start and at the end, what it owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aStg m ρ c
    | ⟨1, _⟩ => bStg m ρ c
    | ⟨2, _⟩ => result m ρ c
  Φ t := match t with
    | ⟨0, _⟩ => iprop(given m ρ c ∗ anySlots c)
    | ⟨_ + 1, _⟩ => left c
  q _ := fullShare
  owed t := match t with
    | ⟨0, _⟩ => O₀ c
    | ⟨_ + 1, _⟩ => 0

omit [FloatOps F] in
/-- To own a staged array is to hold its memory. -/
theorem owns_staged (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staged array of device `c`, holding `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the kernel of device `c` is started with. -/
def before (c : Dev nD) : sProp 𝕄 :=
  iprop((given m ρ c ∗ anySlots c) ∗ (dats m ρ 0 c).owesAt () (t0_0 : Fin cfg0.N).castSucc
    ∗ (∃ d, staged c cc0_stg0_0 ((dats m ρ 0 c).before (0 : Fin 3) (t0_0 : Fin cfg0.N) d))
    ∗ (∃ d, staged c cc0_stg1_0 ((dats m ρ 0 c).before (1 : Fin 3) (t0_0 : Fin cfg0.N) d))
    ∗ (∃ d, staged c cc0_stg2_0 ((dats m ρ 0 c).before (2 : Fin 3) (t0_0 : Fin cfg0.N) d)))

/-- What the kernel of device `c` ends with. -/
def after (c : Dev nD) : sProp 𝕄 :=
  iprop(left c ∗ (dats m ρ 0 c).owesAt () (t0_0 : Fin cfg0.N).succ
    ∗ staged c cc0_stg0_0 (aStg m ρ c) ∗ staged c cc0_stg1_0 (bStg m ρ c) ∗ staged c cc0_stg2_0 (result m ρ c))

/-- All places of a device, as lists. -/
theorem places (c : Dev nD) :
    (bigSep Finset.univ fun k : CI => (atPos ER (kcell (c, k)) 0 ∅ 0 : sProp 𝕄))
      = iprop(atPos ER (barCell c) 0 ∅ 0 ∗ bigSepL (Plan.own ++ sOrd) (fun y => atPos ER (sendCell c y) 0 ∅ 0)
        ∗ bigSepL (Plan.own ++ sOrd) (fun y => atPos ER (recvCell c y) 0 ∅ 0)) := by
  rw [all_sum, all_sum, bigSep_univ_of_subsingleton (), bigSep_univ_eq_bigSepL _ all_univ all_nodup, bigSep_univ_eq_bigSepL _ all_univ all_nodup]; rfl

/-- Of the rights to signal neighbours' barriers, those that are used. -/
theorem knocks_of (c : Dev nD) : (bigSep Finset.univ fun d : Fin 8 => dutyTok ER (barCell (px d c)) 0 d) ⊢ (knocks c : sProp 𝕄) := by
  unfold knocks
  have h := chain_of_all (l := [1, 3, 4]) (by decide) fun d : Fin 8 => (dutyTok ER (barCell (px d c)) 0 d : sProp 𝕄)
  rw [bigSepL_cons', bigSepL_cons', bigSepL_singleton] at h
  exact h

/-- From what the region brings to what the program starts with. -/
theorem brings (c : Dev nD) : before m ρ c ⊢ iprop(∃ K, start m ρ K c) := by
  unfold before given G' dealt used anySlots
  rw [places, bigSepL_append, bigSepL_append]
  iintro ⟨⟨⟨⟨%K, HR, ⟨Hab, ⟨Hos, Hs⟩, Hor, Hr⟩, Hd, Hts, Htr⟩, Hlev, Hcb, Hcr⟩, Hscr⟩, Ho, ⟨%d0, %g0, %hg0, Ha⟩, ⟨%d1, %g1, %hg1, Hb⟩, ⟨%d2, %g2, %hg2, Hout⟩⟩
  have ha : g0 = aStg m ρ c := by rw [hg0]; unfold Dat.before; rw [if_pos (fetch0_0 t0_0)]; rfl
  have hb : g1 = bStg m ρ c := by rw [hg1]; unfold Dat.before; rw [if_pos (fetch0_1 t0_0)]; rfl
  subst ha; subst hb
  iexists K
  unfold start tickets aPts bPts
  rw [chain_sep, chain_sep, chain_sep]
  ihave Hts := (chain_of_all sOrd_nodup fun y : Qt => (dutyTok ER (sendCell c y) 0 0 : sProp 𝕄)) $$ Hts
  ihave Htr := (chain_of_all sOrd_nodup fun y : Qt => (dutyTok ER (recvCell (px (link y) c) y) 0 0 : sProp 𝕄)) $$ Htr
  unfold Dat.owesAt Pipeline.owesWithin
  icases Ho with ⟨%W, -, Ho⟩
  isplitl [HR]; · iexact HR
  isplitl [Hlev]; · iexact Hlev
  isplitl [Ho]; · iexists W; iexact Ho
  isplitl [Hd]; · iapply (knocks_of c); iexact Hd
  isplitl [Hts Htr]
  · isplitl [Hts] <;> iassumption
  isplitl [Hab]; · iexact Hab
  isplitl [Hcb]; · iexact Hcb
  isplitl [Hs]; · iexact Hs
  isplitl [Hr Hcr]
  · isplitl [Hr] <;> iassumption
  isplitl [Hos Hor]
  · isplitl [Hos] <;> iassumption
  isplitl [Ha]; · iexact Ha
  isplitl [Hb]; · iexact Hb
  isplitl [Hout]; · iexists g2; iexact Hout
  iexact Hscr

/-- From what the program ends with to what the region takes. -/
theorem takes (c : Dev nD) : finished m ρ c ⊢ after m ρ c := by
  unfold finished after left anySlots aPts bPts Dat.owesAt Pipeline.owesWithin
  rw [show (dats m ρ 0 c).owed (t0_0 : Fin cfg0.N).succ = 0 from rfl]
  iintro ⟨⟨%W, Ho⟩, Ha, Hb, Hout, Hscr, Hbar, Hs, Hr⟩
  isplitl [Hscr Hbar Hs Hr]
  · isplitl [Hscr]; · iexact Hscr
    isplitl [Hbar]; · iexact Hbar
    isplitl [Hs] <;> iassumption
  isplitl [Ho]
  · iexists W
    isplitr; · ipureintro; exact fun _ _ => Or.inl trivial
    iexact Ho
  isplitl [Ha]
  · iexists _; isplitr; · (ipureintro; rfl)
    iexact Ha
  isplitl [Hb]
  · iexists _; isplitr; · (ipureintro; rfl)
    iexact Hb
  iexists _; isplitr; · (ipureintro; rfl)
  iexact Hout

/-- The kernel of device `c` leads from the one to the other. -/
theorem body_sound (c : Dev nD) {hA hB hO hG} :
    before m ρ c ⊢ run c (cc0_body aM hA bM hB oM hO gM hG cc0_scratch1 cc0_scratch2) fun _ => after m ρ c := by
  refine (brings m ρ c).trans ?_
  iintro ⟨%K, H⟩
  have h : start m ρ K c ⊢ run c (cc0_body aM hA bM hB oM hO gM hG cc0_scratch1 cc0_scratch2) fun _ => after m ρ c :=
    body_run.trans (wp_mono _ _ _ fun _ => (finish m ρ K c).trans (takes m ρ c))
  iapply h; iexact H

set_option maxRecDepth 65536 in
/-- The library's obligation on the kernel of device `c`. -/
theorem body_obligation (c : Dev nD) : BodyObligation (dats (F := F) m ρ 0 c) (defs₀ (F := F)) 𝒱₀ () Set.univ := fun t => by
  rw [fin_N0 t, bigSep_W0, bigSep_W0]
  simp only [owns_staged]
  exact body_sound m ρ c

/-! ## The launch -/

/-- The kernel has its arrays to itself. -/
theorem share_full (c : Dev nD) (w : Fin cfg0.W) : (dats m ρ 0 c).share w = fullShare := by unfold Dat.share; split <;> rfl

omit [FloatOps F] in
/-- The launch gives device `c` its share, the levels, and its credit. -/
theorem given_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(given m ρ c ∗ emp) := by
  iintro ⟨-, Hlev, Hcr, -, HG⟩
  ihave Hcr := (credits (F := F) c) $$ Hcr
  imodintro
  unfold given
  isplitl
  · isplitl [HG]; · iexact HG
    isplitl [Hlev]; · iexact Hlev
    iexact Hcr
  · iempintro

/-- At the start the slots hold anything. -/
theorem enter (c : Dev nD) :
    iprop(given m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(given m ρ c ∗ anySlots c) from rfl, scopedRest0_eq]
  unfold anySlots
  iintro ⟨H, -, Hr⟩
  isplitl [H] <;> iassumption

/-- At the end the semaphores and the slots are returned. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = left c from rfl, scopedRest0_eq, own_eq, unscoped_eq]
  unfold left anySlots
  iintro ⟨Hr, HB, HS⟩
  isplitl [HB]; · iexact HB
  isplitl [HS]; · iexact HS
  iexact Hr

/-- The staging of arrays waits below everything. -/
theorem stage_waits (c : Dev nD) : (levAts L lv : sProp 𝕄) ⊢ Pipeline.cellsWaits cfgs (dats m ρ) () 0 c :=
  Pipeline.cellsWaits_intro cfgs (dats m ρ) () 0 c fun w s t => by
    have low : ∀ (w : Fin 3) (s : Fin (spec0 w).nbuf), dec (.dma ((spec0 w).sem s)) = none := fun w s =>
      Option.eq_none_iff_forall_ne_some.mpr fun k hk => by
        have h := dec_some hk
        rcases k with _ | k
        · exact nomatch h
        · exact ownSemFacts.disj k w s h
    refine may_wait c _ _ fun g u hg => ?_
    have h0 : lv ((c : Thread nD τ), .dma ((spec0 w).sem s)) () = 0 := by unfold lv; rw [low w s]
    rcases t with ⟨_ | _, ht⟩
    · have := O₀_pos hg
      exact ⟨this.1, lt_of_eq_of_lt h0 this.2⟩
    · exact absurd hg (Nat.lt_irrefl 0)

/-- The contents of window `w`'s array after the run. -/
def final (c : Dev nD) (w : Fin cfg0.W) : Buf (Elt F) ((cfg0.win w).arr.view.loc (c : Thread nD τ)) := (dats m ρ 0 c).arrAt w cfg0.N

set_option maxRecDepth 8000 in
/-- The program on eight devices ends from any memory, its arrays holding `final` and every semaphore zero. -/
theorem run_main : θ_run defs (onTc (τ := τ) (main (F := F))) (s₀ m ρ)
    (fun r => (∀ (c : Dev nD) (w : Fin cfg0.W), r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := stage_waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := given m ρ) (Y := fun c => unscopedSems0 c) (Z := fun _ => iprop(emp))
    (hX := given_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are as they were. -/
theorem final_a (c : Dev nD) : final m ρ c (0 : Fin 3) = m ((c : Thread nD τ).loc main_arg0) := (dats (F := F) m ρ 0 c).arrAt_in (0 : Fin 3) rfl _
/-- `B` is as it was. -/
theorem final_b (c : Dev nD) : final m ρ c (1 : Fin 3) = m ((c : Thread nD τ).loc main_arg1) := (dats (F := F) m ρ 0 c).arrAt_in (1 : Fin 3) rfl _

/-- The result array holds `result`. -/
theorem final_o (c : Dev nD) : (win0_2.blk (0 : Fin 1)).view.read (Elt F) (final m ρ c (2 : Fin 3)) = result m ρ c := by
  unfold final
  rw [show cfg0.N = ((0 : Fin 1) : Fin cfg0.N).val + 1 from rfl, (dats m ρ 0 c).arrAt_succ (2 : Fin 3) (0 : Fin 1),
    show (cfg0.win (2 : Fin 3)).flush (0 : Fin 1) = true from flush0_2 _, if_pos rfl]
  exact View.read_write_univ _ _

end Cert.KernelIdealProof

end
-- ==== Proof.Value.Product.lean ====
/-
  What a device's kernel computes over the reals: each half product is a product of 384 rows with `B`, and together they
  are the product of all blocks of `A` with `B`.
-/
module

public import proofs.«01_k».proof.Proof.Value.Reference
public import proofs.«01_k».proof.Proof.KernelIdeal.Run
public import Idealize.ShloMosaic.Lib.Layout

@[expose] public section

noncomputable section

namespace Cert.Value

open Idealize.ShloMosaic Idealize.ShloMosaic.TcCoe
open Cert.KernelIdeal Cert.KernelIdeal.Gen Cert.KernelIdealProof
open scoped BigOperators

/-- An entry of a half product: the sum over the columns of the half block and the rows of `B`. -/
theorem half_product (b : FVec Ideal S384x768 .bf16) (a : FVec Ideal S1x384x384 .bf16) (r : Fin 384) (l : Fin 768) :
    k0_pay4 (F := Ideal) (k0_pay2 b) a (ValueIdx.ix2 r l)
      = ∑ k : Fin 384, a (Fin.cons ⟨0, Nat.one_pos⟩ (ValueIdx.ix2 r k)) * b (ValueIdx.ix2 k l) := by
  have hb : k0_pay2 (F := Ideal) b = b := shapeCast_self b _
  rw [hb]
  show FloatOps.matmul (DotDims.plain 384 384 768) none (shapeCast S384x384 a shapeCasts_S1x384x384_S384x384) b (constant S384x768 .f32 0x00000000#32) (ValueIdx.ix2 r l) = _
  rw [Ideal.matmul_plain_apply]
  show Ideal.ofBits .f32 0x00000000#32 + _ = _
  rw [Ideal.ofBits_zero_f32, zero_add]
  exact Finset.sum_congr rfl fun k _ => congrArg (· * b (ValueIdx.ix2 k l)) (shapeCast_dropUnit_apply ![384, 384] a _ _)

variable (m : (ℓ : Loc nD τ sig) → Buf (Elt Ideal) ℓ) (ρ : Dev nD → PrngReg)

/-- The kernel is given all of a device's argument arrays. -/
theorem a_whole (c : Dev nD) : aStg m ρ c = m ((c : Thread nD τ).loc main_arg0) :=
  Memref.read_access_unit_zero (Elt Ideal) main_arg0 (funext fun a => by fin_cases a <;> decide) (fun a => by fin_cases a <;> decide) _
/-- Likewise for `B`. -/
theorem b_whole (c : Dev nD) : bStg m ρ c = m ((c : Thread nD τ).loc main_arg1) :=
  Memref.read_access_unit_zero (Elt Ideal) main_arg1 (funext fun a => by fin_cases a <;> decide) (fun a => by fin_cases a <;> decide) _
/-- All of a device's result array is what the kernel leaves. -/
theorem o_whole (c : Dev nD) : final m ρ c (2 : Fin 3) = result m ρ c :=
  (Memref.read_access_unit_zero (Elt Ideal) main_v1 (funext fun a => by fin_cases a <;> decide) (fun a => by fin_cases a <;> decide) _).symm.trans (final_o m ρ c)

/-- If the devices hold the blocks of `A` and each holds `B`, the result on every device is the product of `A` and `B`. -/
theorem result_eq (A : Mat 6144 384) (B : Mat 384 768)
    (hA : ∀ c : Dev nD, aStg m ρ c = Layout.block ⟨2, ![768, 384]⟩ ⟨2, ![6144, 384]⟩ 0 8 c A) (hB : ∀ c : Dev nD, bStg m ρ c = B) (c : Dev nD) :
    result m ρ c = product A B := by
  funext i
  have hi : (i 0).val < 6144 := (i 0).isLt
  unfold result part product
  refine (half_product _ _ ⟨(i 0).val % 384, Nat.mod_lt _ (by decide)⟩ (i 1)).trans (Finset.sum_congr rfl fun k _ => ?_)
  rw [hB]
  refine congrArg (· * B (ValueIdx.ix2 k (i 1))) ?_
  unfold aHalf
  rw [hA]
  refine congrArg A (funext fun a => Fin.ext ?_)
  fin_cases a
  · show (i 0).val / 768 * 768 + (384 * ((i 0).val % 768 / 384) + (i 0).val % 384) = (i 0).val
    omega
  · rfl

end Cert.Value

end
-- ==== Proof.lean ====
/-
  The claims. Each program ends with its arguments as they were and every semaphore at zero; the kernel read over the reals
  is the kernel itself; and over the reals every device's result is the reference's.
-/
module

public import proofs.«01_k».proof.Defs
public import proofs.«01_k».proof.Proof.Kernel.Run
public import proofs.«01_k».proof.Proof.Value.Product
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The kernel in machine arithmetic ends, its arguments unchanged, all semaphores zero. -/
theorem frame_kernel : Cert.quiescent_Kernel := fun m ρ _ =>
  (θ_run Cert.Kernel.defs _ _).mono
    (fun _ h => ⟨fun c => ⟨(h.1 c (0 : Fin 3)).trans (KernelProof.final_a m ρ c), (h.1 c (1 : Fin 3)).trans (KernelProof.final_b m ρ c)⟩, h.2⟩)
    (KernelProof.run_main (F := Bits) m ρ)

/-- The kernel over the reals ends, its arguments unchanged, all semaphores zero. -/
theorem frame_kernel_ideal : Cert.quiescent_KernelIdeal := fun m ρ _ =>
  (θ_run Cert.KernelIdeal.defs _ _).mono
    (fun _ h => ⟨fun c => ⟨(h.1 c (0 : Fin 3)).trans (KernelIdealProof.final_a m ρ c), (h.1 c (1 : Fin 3)).trans (KernelIdealProof.final_b m ρ c)⟩, h.2⟩)
    (KernelIdealProof.run_main (F := Ideal) m ρ)

/-- The reference ends, its arguments unchanged; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals, from blocks of one `A` and copies of one `B`, every device ends with the reference's whole result. -/
theorem value : Cert.algebraic_KernelIdeal_ReferenceIdeal := fun m ρ m' ρ' _ agree => by
  refine ⟨Value.product (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨?_, (h.1 c (0 : Fin 3)).trans (KernelIdealProof.final_a m ρ c),
      (h.1 c (1 : Fin 3)).trans (KernelIdealProof.final_b m ρ c)⟩) (KernelIdealProof.run_main (F := Ideal) m ρ)
    exact (h.1 c (2 : Fin 3)).trans ((Value.o_whole m ρ c).trans (Value.result_eq m ρ _ _
      (fun d => (Value.a_whole m ρ d).trans (agree d).1) (fun d => (Value.b_whole m ρ d).trans (agree d).2) c))
  · exact (θ_run Cert.ReferenceIdeal.defs _ _).mono (fun _ h => ⟨(h 0).1.trans (Value.reference_eq _ _), (h 0).2⟩)
      (Cert.ReferenceIdeal.Value.run (F := Ideal) m' ρ')

/-- The five claims together. -/
theorem claim : Cert.Claim :=
  ⟨Cert.Kernel.Gen.facts, Cert.KernelIdeal.Gen.facts, Cert.ReferenceIdeal.Gen.facts, frame_kernel, frame_kernel_ideal, frame_reference, trivial, value⟩

end Cert.Proof

end
